-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16x2047 : Shape := ⟨2, ![16, 2047]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S16x2047 : S_.BroadcastsInDim S16x2047 (![] : Fin 0 → Fin S16x2047.rank)
  reducesTo_S16x2047_S_d0_1 : S16x2047.ReducesTo [0, 1] S_
  h_S_ : 0 < S_.numel

variable [Facts]

def fn {F : FTy → Type} [FloatOps F] (main_arg0 : IVec S16x2047 32) (main_arg1 : FVec F S100000x128 .f32) (main_arg2 : FVec F S128x128 .f32) (main_arg3 : FVec F S128 .f32) (main_arg4 : IVec S_ 32) : IVec S_ 1 :=
  let main_c : IVec S_ 32 := constantI S_ 32 0#32
  let main_v0 : IVec S16x2047 32 := broadcastInDim S16x2047 ![] bcast_S_S16x2047 main_c
  let main_v1 : IVec S16x2047 1 := cmpi .sge main_arg0 main_v0
  let main_c_0 : IVec S_ 32 := constantI S_ 32 100000#32
  let main_v2 : IVec S16x2047 32 := broadcastInDim S16x2047 ![] bcast_S_S16x2047 main_c_0
  let main_v3 : IVec S16x2047 1 := cmpi .slt main_arg0 main_v2
  let main_v4 : IVec S16x2047 1 := andi main_v1 main_v3
  let main_c_1 : IVec S_ 1 := constantI S_ 1 1#1
  let main_v5 : IVec S_ 1 := (fun x v => Host.reduce IntOp.andi x v reducesTo_S16x2047_S_d0_1 h_S_) main_v4 main_c_1
  main_v5
-- ==== Kernel.lean ====
abbrev S16x2047 : Shape := ⟨2, ![16, 2047]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S256x128 : Shape := ⟨2, ![256, 128]⟩
abbrev S16x1 : Shape := ⟨2, ![16, 1]⟩
abbrev S16x2048 : Shape := ⟨2, ![16, 2048]⟩
abbrev S32768x128 : Shape := ⟨2, ![32768, 128]⟩
abbrev S1024 : Shape := ⟨1, ![1024]⟩
abbrev S8x128 : Shape := ⟨2, ![8, 128]⟩
abbrev S6x128x128 : Shape := ⟨3, ![6, 128, 128]⟩
abbrev S1x1024 : Shape := ⟨2, ![1, 1024]⟩
abbrev S1x128x128 : Shape := ⟨3, ![1, 128, 128]⟩
abbrev S1x128 : Shape := ⟨2, ![1, 128]⟩
abbrev S16x2048x128 : Shape := ⟨3, ![16, 2048, 128]⟩
abbrev S16x1x128 : Shape := ⟨3, ![16, 1, 128]⟩
abbrev S4x2048x128 : Shape := ⟨3, ![4, 2048, 128]⟩
abbrev S4x1x128 : Shape := ⟨3, ![4, 1, 128]⟩
abbrev S1x1024x128 : Shape := ⟨3, ![1, 1024, 128]⟩
abbrev S1024x128 : Shape := ⟨2, ![1024, 128]⟩
abbrev S128x8x128 : Shape := ⟨3, ![128, 8, 128]⟩
abbrev S512x128 : Shape := ⟨2, ![512, 128]⟩
abbrev S1x512x128 : Shape := ⟨3, ![1, 512, 128]⟩
abbrev S64x8x128 : Shape := ⟨3, ![64, 8, 128]⟩
abbrev S1x256x128 : Shape := ⟨3, ![1, 256, 128]⟩
abbrev S32x8x128 : Shape := ⟨3, ![32, 8, 128]⟩
abbrev S16x8x128 : Shape := ⟨3, ![16, 8, 128]⟩
abbrev S64x128 : Shape := ⟨2, ![64, 128]⟩
abbrev S1x64x128 : Shape := ⟨3, ![1, 64, 128]⟩
abbrev S8x8x128 : Shape := ⟨3, ![8, 8, 128]⟩
abbrev S32x128 : Shape := ⟨2, ![32, 128]⟩
abbrev S1x32x128 : Shape := ⟨3, ![1, 32, 128]⟩
abbrev S4x8x128 : Shape := ⟨3, ![4, 8, 128]⟩
abbrev S16x128 : Shape := ⟨2, ![16, 128]⟩
abbrev S1x16x128 : Shape := ⟨3, ![1, 16, 128]⟩
abbrev S2x8x128 : Shape := ⟨3, ![2, 8, 128]⟩
abbrev S1x8x128 : Shape := ⟨3, ![1, 8, 128]⟩
abbrev S4x128 : Shape := ⟨2, ![4, 128]⟩
abbrev S1x4x128 : Shape := ⟨3, ![1, 4, 128]⟩
abbrev S2x128 : Shape := ⟨2, ![2, 128]⟩
abbrev S1x2x128 : Shape := ⟨3, ![1, 2, 128]⟩
abbrev S1x1x128 : Shape := ⟨3, ![1, 1, 128]⟩

abbrev nBuf : Table → Nat
  | .hbm => 14
  | .local .tc .vmem => 6
  | .local .scVector .vmem => 3
  | _ => 0

abbrev bufTy : (tb : Table) → Fin (nBuf tb) → BufTy
  | .hbm, ⟨0, _⟩ => ⟨S16x2047, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S256x128, .i32⟩
  | .hbm, ⟨6, _⟩ => ⟨S_, .i32⟩
  | .hbm, ⟨7, _⟩ => ⟨S16x1, .i32⟩
  | .hbm, ⟨8, _⟩ => ⟨S16x2048, .i32⟩
  | .hbm, ⟨9, _⟩ => ⟨S32768x128, .f32⟩
  | .hbm, ⟨10, _⟩ => ⟨S16x2048x128, .f32⟩
  | .hbm, ⟨11, _⟩ => ⟨S1x128, .f32⟩
  | .hbm, ⟨12, _⟩ => ⟨S16x1x128, .f32⟩
  | .hbm, ⟨13, _⟩ => ⟨S16x128, .f32⟩
  | .local .tc .vmem, ⟨0, _⟩ => ⟨S4x2048x128, .f32⟩
  | .local .tc .vmem, ⟨1, _⟩ => ⟨S4x2048x128, .f32⟩
  | .local .tc .vmem, ⟨2, _⟩ => ⟨S128x128, .f32⟩
  | .local .tc .vmem, ⟨3, _⟩ => ⟨S1x128, .f32⟩
  | .local .tc .vmem, ⟨4, _⟩ => ⟨S4x1x128, .f32⟩
  | .local .tc .vmem, ⟨5, _⟩ => ⟨S4x1x128, .f32⟩
  | .local .scVector .vmem, ⟨0, _⟩ => ⟨S1024, .i32⟩
  | .local .scVector .vmem, ⟨1, _⟩ => ⟨S8x128, .i32⟩
  | .local .scVector .vmem, ⟨2, _⟩ => ⟨S6x128x128, .f32⟩
  | _, _ => ⟨S16x2047, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v1_scv : Ref sig .scVector := ⟨.hbm, 8, rfl⟩
abbrev main_c_scv : Ref sig .scVector := ⟨.hbm, 5, rfl⟩
abbrev main_arg1_scv : Ref sig .scVector := ⟨.hbm, 1, rfl⟩
abbrev main_v2_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  ![v18.toNat, v29.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v34 : BitVec 32 := Scalar.muli v1 c8_i32
  let c0_i32_11 : BitVec 32 := 0#32
  ![v34.toNat, 0]
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2047 : Shape := ⟨2, ![16, 2047]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S1024 : Shape := ⟨1, ![1024]⟩
abbrev S512 : Shape := ⟨1, ![512]⟩
abbrev S256 : Shape := ⟨1, ![256]⟩
abbrev S64 : Shape := ⟨1, ![64]⟩
abbrev S32 : Shape := ⟨1, ![32]⟩
abbrev S16 : Shape := ⟨1, ![16]⟩
abbrev S8 : Shape := ⟨1, ![8]⟩
abbrev S4 : Shape := ⟨1, ![4]⟩
abbrev S2 : Shape := ⟨1, ![2]⟩
abbrev S16x2047x1 : Shape := ⟨3, ![16, 2047, 1]⟩
abbrev S1 : Shape := ⟨1, ![1]⟩
abbrev S1x1x1 : Shape := ⟨3, ![1, 1, 1]⟩
abbrev S16x2047x128 : Shape := ⟨3, ![16, 2047, 128]⟩
abbrev S1x1x128 : Shape := ⟨3, ![1, 1, 128]⟩
abbrev S1024x1 : Shape := ⟨2, ![1024, 1]⟩
abbrev S16x1024x128 : Shape := ⟨3, ![16, 1024, 128]⟩
abbrev S512x1 : Shape := ⟨2, ![512, 1]⟩
abbrev S16x512x128 : Shape := ⟨3, ![16, 512, 128]⟩
abbrev S256x1 : Shape := ⟨2, ![256, 1]⟩
abbrev S16x256x128 : Shape := ⟨3, ![16, 256, 128]⟩
abbrev S128x1 : Shape := ⟨2, ![128, 1]⟩
abbrev S16x128x128 : Shape := ⟨3, ![16, 128, 128]⟩
abbrev S64x1 : Shape := ⟨2, ![64, 1]⟩
abbrev S16x64x128 : Shape := ⟨3, ![16, 64, 128]⟩
abbrev S32x1 : Shape := ⟨2, ![32, 1]⟩
abbrev S16x32x128 : Shape := ⟨3, ![16, 32, 128]⟩
abbrev S16x1 : Shape := ⟨2, ![16, 1]⟩
abbrev S16x16x128 : Shape := ⟨3, ![16, 16, 128]⟩
abbrev S8x1 : Shape := ⟨2, ![8, 1]⟩
abbrev S16x8x128 : Shape := ⟨3, ![16, 8, 128]⟩
abbrev S4x1 : Shape := ⟨2, ![4, 1]⟩
abbrev S16x4x128 : Shape := ⟨3, ![16, 4, 128]⟩
abbrev S2x1 : Shape := ⟨2, ![2, 1]⟩
abbrev S16x2x128 : Shape := ⟨3, ![16, 2, 128]⟩
abbrev S16x128 : Shape := ⟨2, ![16, 128]⟩

abbrev nBuf : Space → Nat
  | .hbm => 194
  | .vmem => 0
  | .smem => 0
  | _ => 0

abbrev hbmTy0_0 (i : Nat) : BufTy := match i % 128 with
  | 0 => ⟨S16x2047, .i32⟩
  | 1 => ⟨S100000x128, .f32⟩
  | 2 => ⟨S128x128, .f32⟩
  | 3 => ⟨S128, .f32⟩
  | 4 => ⟨S_, .i32⟩
  | 5 => ⟨S1024, .i32⟩
  | 6 => ⟨S1024, .i1⟩
  | 7 => ⟨S1024, .i32⟩
  | 8 => ⟨S1024, .i1⟩
  | 9 => ⟨S512, .i32⟩
  | 10 => ⟨S512, .i1⟩
  | 11 => ⟨S512, .i32⟩
  | 12 => ⟨S512, .i1⟩
  | 13 => ⟨S256, .i32⟩
  | 14 => ⟨S256, .i1⟩
  | 15 => ⟨S256, .i32⟩
  | 16 => ⟨S256, .i1⟩
  | 17 => ⟨S128, .i32⟩
  | 18 => ⟨S128, .i1⟩
  | 19 => ⟨S128, .i32⟩
  | 20 => ⟨S128, .i1⟩
  | 21 => ⟨S64, .i32⟩
  | 22 => ⟨S64, .i1⟩
  | 23 => ⟨S64, .i32⟩
  | 24 => ⟨S64, .i1⟩
  | 25 => ⟨S32, .i32⟩
  | 26 => ⟨S32, .i1⟩
  | 27 => ⟨S32, .i32⟩
  | 28 => ⟨S32, .i1⟩
  | 29 => ⟨S16, .i32⟩
  | 30 => ⟨S16, .i1⟩
  | 31 => ⟨S16, .i32⟩
  | 32 => ⟨S16, .i1⟩
  | 33 => ⟨S8, .i32⟩
  | 34 => ⟨S8, .i1⟩
  | 35 => ⟨S8, .i32⟩
  | 36 => ⟨S8, .i1⟩
  | 37 => ⟨S4, .i32⟩
  | 38 => ⟨S4, .i1⟩
  | 39 => ⟨S4, .i32⟩
  | 40 => ⟨S4, .i1⟩
  | 41 => ⟨S2, .i32⟩
  | 42 => ⟨S2, .i1⟩
  | 43 => ⟨S2, .i32⟩
  | 44 => ⟨S2, .i1⟩
  | 45 => ⟨S_, .i32⟩
  | 46 => ⟨S16x2047, .i32⟩
  | 47 => ⟨S16x2047, .i1⟩
  | 48 => ⟨S_, .i32⟩
  | 49 => ⟨S16x2047, .i32⟩
  | 50 => ⟨S16x2047, .i32⟩
  | 51 => ⟨S16x2047, .i32⟩
  | 52 => ⟨S16x2047x1, .i32⟩
  | 53 => ⟨S1, .i32⟩
  | 54 => ⟨S_, .i32⟩
  | 55 => ⟨S16x2047x1, .i32⟩
  | 56 => ⟨S16x2047x1, .i1⟩
  | 57 => ⟨S1x1x1, .i32⟩
  | 58 => ⟨S16x2047x1, .i32⟩
  | 59 => ⟨S16x2047x1, .i1⟩
  | 60 => ⟨S16x2047x1, .i1⟩
  | 61 => ⟨S_, .i1⟩
  | 62 => ⟨S16x2047, .i1⟩
  | 63 => ⟨S16x2047x128, .f32⟩
  | 64 => ⟨S16x2047x128, .i1⟩
  | 65 => ⟨S_, .f32⟩
  | 66 => ⟨S16x2047x128, .f32⟩
  | 67 => ⟨S16x2047x128, .f32⟩
  | 68 => ⟨S16x2047x128, .f32⟩
  | 69 => ⟨S1x1x128, .f32⟩
  | 70 => ⟨S16x2047x128, .f32⟩
  | 71 => ⟨S16x2047x128, .f32⟩
  | 72 => ⟨S_, .i32⟩
  | 73 => ⟨S1024, .i32⟩
  | 74 => ⟨S1024, .i32⟩
  | 75 => ⟨S1024, .i32⟩
  | 76 => ⟨S1024x1, .i32⟩
  | 77 => ⟨S16x1024x128, .f32⟩
  | 78 => ⟨S_, .i32⟩
  | 79 => ⟨S1024, .i32⟩
  | 80 => ⟨S1024, .i32⟩
  | 81 => ⟨S1024, .i32⟩
  | 82 => ⟨S1024x1, .i32⟩
  | 83 => ⟨S16x2047x128, .f32⟩
  | 84 => ⟨S_, .i32⟩
  | 85 => ⟨S512, .i32⟩
  | 86 => ⟨S512, .i32⟩
  | 87 => ⟨S512, .i32⟩
  | 88 => ⟨S512x1, .i32⟩
  | 89 => ⟨S16x512x128, .f32⟩
  | 90 => ⟨S_, .i32⟩
  | 91 => ⟨S512, .i32⟩
  | 92 => ⟨S512, .i32⟩
  | 93 => ⟨S512, .i32⟩
  | 94 => ⟨S512x1, .i32⟩
  | 95 => ⟨S16x2047x128, .f32⟩
  | 96 => ⟨S_, .i32⟩
  | 97 => ⟨S256, .i32⟩
  | 98 => ⟨S256, .i32⟩
  | 99 => ⟨S256, .i32⟩
  | 100 => ⟨S256x1, .i32⟩
  | 101 => ⟨S16x256x128, .f32⟩
  | 102 => ⟨S_, .i32⟩
  | 103 => ⟨S256, .i32⟩
  | 104 => ⟨S256, .i32⟩
  | 105 => ⟨S256, .i32⟩
  | 106 => ⟨S256x1, .i32⟩
  | 107 => ⟨S16x2047x128, .f32⟩
  | 108 => ⟨S_, .i32⟩
  | 109 => ⟨S128, .i32⟩
  | 110 => ⟨S128, .i32⟩
  | 111 => ⟨S128, .i32⟩
  | 112 => ⟨S128x1, .i32⟩
  | 113 => ⟨S16x128x128, .f32⟩
  | 114 => ⟨S_, .i32⟩
  | 115 => ⟨S128, .i32⟩
  | 116 => ⟨S128, .i32⟩
  | 117 => ⟨S128, .i32⟩
  | 118 => ⟨S128x1, .i32⟩
  | 119 => ⟨S16x2047x128, .f32⟩
  | 120 => ⟨S_, .i32⟩
  | 121 => ⟨S64, .i32⟩
  | 122 => ⟨S64, .i32⟩
  | 123 => ⟨S64, .i32⟩
  | 124 => ⟨S64x1, .i32⟩
  | 125 => ⟨S16x64x128, .f32⟩
  | 126 => ⟨S_, .i32⟩
  | 127 => ⟨S64, .i32⟩
  | _ => ⟨S16x2047, .i32⟩

abbrev hbmTy0_1 (i : Nat) : BufTy := match i % 128 with
  | 0 => ⟨S64, .i32⟩
  | 1 => ⟨S64, .i32⟩
  | 2 => ⟨S64x1, .i32⟩
  | 3 => ⟨S16x2047x128, .f32⟩
  | 4 => ⟨S_, .i32⟩
  | 5 => ⟨S32, .i32⟩
  | 6 => ⟨S32, .i32⟩
  | 7 => ⟨S32, .i32⟩
  | 8 => ⟨S32x1, .i32⟩
  | 9 => ⟨S16x32x128, .f32⟩
  | 10 => ⟨S_, .i32⟩
  | 11 => ⟨S32, .i32⟩
  | 12 => ⟨S32, .i32⟩
  | 13 => ⟨S32, .i32⟩
  | 14 => ⟨S32x1, .i32⟩
  | 15 => ⟨S16x2047x128, .f32⟩
  | 16 => ⟨S_, .i32⟩
  | 17 => ⟨S16, .i32⟩
  | 18 => ⟨S16, .i32⟩
  | 19 => ⟨S16, .i32⟩
  | 20 => ⟨S16x1, .i32⟩
  | 21 => ⟨S16x16x128, .f32⟩
  | 22 => ⟨S_, .i32⟩
  | 23 => ⟨S16, .i32⟩
  | 24 => ⟨S16, .i32⟩
  | 25 => ⟨S16, .i32⟩
  | 26 => ⟨S16x1, .i32⟩
  | 27 => ⟨S16x2047x128, .f32⟩
  | 28 => ⟨S_, .i32⟩
  | 29 => ⟨S8, .i32⟩
  | 30 => ⟨S8, .i32⟩
  | 31 => ⟨S8, .i32⟩
  | 32 => ⟨S8x1, .i32⟩
  | 33 => ⟨S16x8x128, .f32⟩
  | 34 => ⟨S_, .i32⟩
  | 35 => ⟨S8, .i32⟩
  | 36 => ⟨S8, .i32⟩
  | 37 => ⟨S8, .i32⟩
  | 38 => ⟨S8x1, .i32⟩
  | 39 => ⟨S16x2047x128, .f32⟩
  | 40 => ⟨S_, .i32⟩
  | 41 => ⟨S4, .i32⟩
  | 42 => ⟨S4, .i32⟩
  | 43 => ⟨S4, .i32⟩
  | 44 => ⟨S4x1, .i32⟩
  | 45 => ⟨S16x4x128, .f32⟩
  | 46 => ⟨S_, .i32⟩
  | 47 => ⟨S4, .i32⟩
  | 48 => ⟨S4, .i32⟩
  | 49 => ⟨S4, .i32⟩
  | 50 => ⟨S4x1, .i32⟩
  | 51 => ⟨S16x2047x128, .f32⟩
  | 52 => ⟨S_, .i32⟩
  | 53 => ⟨S2, .i32⟩
  | 54 => ⟨S2, .i32⟩
  | 55 => ⟨S2, .i32⟩
  | 56 => ⟨S2x1, .i32⟩
  | 57 => ⟨S16x2x128, .f32⟩
  | 58 => ⟨S_, .i32⟩
  | 59 => ⟨S2, .i32⟩
  | 60 => ⟨S2, .i32⟩
  | 61 => ⟨S2, .i32⟩
  | 62 => ⟨S2x1, .i32⟩
  | 63 => ⟨S16x2047x128, .f32⟩
  | 64 => ⟨S_, .f32⟩
  | 65 => ⟨S16x128, .f32⟩
  | _ => ⟨S16x2047, .i32⟩

abbrev hbmTy (i : Nat) : BufTy := match i / 128 with
  | 0 => hbmTy0_0 i
  | 1 => hbmTy0_1 i
  | _ => ⟨S16x2047, .i32⟩

abbrev bufTy : (tb : Table) → Fin (tcTables nBuf tb) → BufTy
  | .hbm, ⟨i, _⟩ => hbmTy i
  | _, _ => ⟨S16x2047, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_c_11 : Ref sig .tc := ⟨.hbm, 17, rfl⟩
abbrev main_c_12 : Ref sig .tc := ⟨.hbm, 18, rfl⟩
abbrev main_c_13 : Ref sig .tc := ⟨.hbm, 19, rfl⟩
abbrev main_c_14 : Ref sig .tc := ⟨.hbm, 20, rfl⟩
abbrev main_c_15 : Ref sig .tc := ⟨.hbm, 21, rfl⟩
abbrev main_c_16 : Ref sig .tc := ⟨.hbm, 22, rfl⟩
abbrev main_c_17 : Ref sig .tc := ⟨.hbm, 23, rfl⟩
abbrev main_c_18 : Ref sig .tc := ⟨.hbm, 24, rfl⟩
abbrev main_c_19 : Ref sig .tc := ⟨.hbm, 25, rfl⟩
abbrev main_c_20 : Ref sig .tc := ⟨.hbm, 26, rfl⟩
abbrev main_c_21 : Ref sig .tc := ⟨.hbm, 27, rfl⟩
abbrev main_c_22 : Ref sig .tc := ⟨.hbm, 28, rfl⟩
abbrev main_c_23 : Ref sig .tc := ⟨.hbm, 29, rfl⟩
abbrev main_c_24 : Ref sig .tc := ⟨.hbm, 30, rfl⟩
abbrev main_c_25 : Ref sig .tc := ⟨.hbm, 31, rfl⟩
abbrev main_c_26 : Ref sig .tc := ⟨.hbm, 32, rfl⟩
abbrev main_c_27 : Ref sig .tc := ⟨.hbm, 33, rfl⟩
abbrev main_c_28 : Ref sig .tc := ⟨.hbm, 34, rfl⟩
abbrev main_c_29 : Ref sig .tc := ⟨.hbm, 35, rfl⟩
abbrev main_c_30 : Ref sig .tc := ⟨.hbm, 36, rfl⟩
abbrev main_c_31 : Ref sig .tc := ⟨.hbm, 37, rfl⟩
abbrev main_c_32 : Ref sig .tc := ⟨.hbm, 38, rfl⟩
abbrev main_c_33 : Ref sig .tc := ⟨.hbm, 39, rfl⟩
abbrev main_c_34 : Ref sig .tc := ⟨.hbm, 40, rfl⟩
abbrev main_c_35 : Ref sig .tc := ⟨.hbm, 41, rfl⟩
abbrev main_c_36 : Ref sig .tc := ⟨.hbm, 42, rfl⟩
abbrev main_c_37 : Ref sig .tc := ⟨.hbm, 43, rfl⟩
abbrev main_c_38 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v0 : Ref sig .tc := ⟨.hbm, 67, rfl⟩
abbrev main_v1 : Ref sig .tc := ⟨.hbm, 68, rfl⟩
abbrev main_v2 : Ref sig .tc := ⟨.hbm, 69, rfl⟩
abbrev main_v3 : Ref sig .tc := ⟨.hbm, 70, rfl⟩
abbrev main_v4 : Ref sig .tc := ⟨.hbm, 71, rfl⟩
abbrev main_c_39 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_c_40 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_c_41 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_c_42 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_c_43 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_c_44 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_c_45 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_c_46 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_c_47 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_c_48 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_c_49 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_c_50 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_c_51 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_52 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_c_53 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_c_54 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_c_55 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_c_56 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_c_57 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_c_58 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_cst : Ref sig .tc := ⟨.hbm, 192, rfl⟩
abbrev main_v105 : Ref sig .tc := ⟨.hbm, 193, rfl⟩

abbrev nD : Nat := 1
abbrev τ : Topo := Topo.v7x

variable {F : FTy → Type} [FloatOps F]
-- ==== Proof.LitDefs.lean ====
/-
  The kernel's row table (`lit0`: 32768 words, the array `main_c`): the words ARE a formula. Row `r = 2048 t + n` of
  the flattened token array goes to row `2048 t + inv n` of the array the SparseCore call writes; `inv` places node `n`
  of a tree, at level `l` and offset `i` within it, at `2^l + rev l i` (`rev` reverses the low `l` bits), and the padding
  node 2047 at 0. `node` undoes `inv`.
-/
module

public import proofs.«01_k».proof.Proof.Gen.KernelIdeal

@[expose] public section

namespace Cert.Proof.Lit

/-- The low `l` bits of `i`, in reverse order. -/
def rev : Nat → Nat → Nat
  | 0, _ => 0
  | l + 1, i => (i % 2) * 2 ^ l + rev l (i / 2)

/-- Where node `n` of a tree's 2048 (the last a padding) is put. -/
def inv (n : Nat) : Nat :=
  if n = 2047 then 0 else 2 ^ Nat.log2 (n + 1) + rev (Nat.log2 (n + 1)) (n + 1 - 2 ^ Nat.log2 (n + 1))

/-- The node put at place `p`. -/
def node (p : Nat) : Nat :=
  if p = 0 then 2047 else 2 ^ Nat.log2 p - 1 + rev (Nat.log2 p) (p - 2 ^ Nat.log2 p)

/-- The table's entry `r`. -/
def pos (r : Nat) : Nat := r / 2048 * 2048 + inv (r % 2048)

/-- The entry of the table that is row `p`. -/
def src (p : Nat) : Nat := p / 2048 * 2048 + node (p % 2048)

/-- `p` at every number below `n`. -/
def allBelow (p : Nat → Bool) : Nat → Bool
  | 0 => true
  | n + 1 => p n && allBelow p n

theorem of_allBelow {p : Nat → Bool} : ∀ {n : Nat}, allBelow p n = true → ∀ i, i < n → p i = true
  | 0, _, i, hi => absurd hi (Nat.not_lt_zero i)
  | n + 1, h, i, hi => by
    have h' := (Bool.and_eq_true _ _).mp h
    rcases Nat.lt_succ_iff_lt_or_eq.mp hi with hi | rfl
    · exact of_allBelow h'.2 i hi
    · exact h'.1

/-- What the table says of the 256 entries from `256 b` on. -/
noncomputable def litBlock (b : Nat) : Bool := allBelow (fun k => Cert.KernelIdeal.lit0t (256 * b + k) == BitVec.ofNat 32 (pos (256 * b + k))) 256

end Cert.Proof.Lit

end
-- ==== Proof.LitA.lean ====
/-
  The kernel's row table, entries 0 to 8191: each is the formula's (`LitDefs.lean`), block by block of 256.
-/
module

public import proofs.«01_k».proof.Proof.LitDefs
public import Mathlib.Tactic.IntervalCases

@[expose] public section

namespace Cert.Proof.Lit

set_option maxRecDepth 100000

theorem lit_b0 : litBlock 0 = true := by decide +kernel
theorem lit_b1 : litBlock 1 = true := by decide +kernel
theorem lit_b2 : litBlock 2 = true := by decide +kernel
theorem lit_b3 : litBlock 3 = true := by decide +kernel
theorem lit_b4 : litBlock 4 = true := by decide +kernel
theorem lit_b5 : litBlock 5 = true := by decide +kernel
theorem lit_b6 : litBlock 6 = true := by decide +kernel
theorem lit_b7 : litBlock 7 = true := by decide +kernel
theorem lit_b8 : litBlock 8 = true := by decide +kernel
theorem lit_b9 : litBlock 9 = true := by decide +kernel
theorem lit_b10 : litBlock 10 = true := by decide +kernel
theorem lit_b11 : litBlock 11 = true := by decide +kernel
theorem lit_b12 : litBlock 12 = true := by decide +kernel
theorem lit_b13 : litBlock 13 = true := by decide +kernel
theorem lit_b14 : litBlock 14 = true := by decide +kernel
theorem lit_b15 : litBlock 15 = true := by decide +kernel
theorem lit_b16 : litBlock 16 = true := by decide +kernel
theorem lit_b17 : litBlock 17 = true := by decide +kernel
theorem lit_b18 : litBlock 18 = true := by decide +kernel
theorem lit_b19 : litBlock 19 = true := by decide +kernel
theorem lit_b20 : litBlock 20 = true := by decide +kernel
theorem lit_b21 : litBlock 21 = true := by decide +kernel
theorem lit_b22 : litBlock 22 = true := by decide +kernel
theorem lit_b23 : litBlock 23 = true := by decide +kernel
theorem lit_b24 : litBlock 24 = true := by decide +kernel
theorem lit_b25 : litBlock 25 = true := by decide +kernel
theorem lit_b26 : litBlock 26 = true := by decide +kernel
theorem lit_b27 : litBlock 27 = true := by decide +kernel
theorem lit_b28 : litBlock 28 = true := by decide +kernel
theorem lit_b29 : litBlock 29 = true := by decide +kernel
theorem lit_b30 : litBlock 30 = true := by decide +kernel
theorem lit_b31 : litBlock 31 = true := by decide +kernel

/-- Blocks 0 to 31. -/
theorem litA : (r : Fin 32) → litBlock (0 + r.val) = true := fun r => match r with
  | 0 => lit_b0
  | 1 => lit_b1
  | 2 => lit_b2
  | 3 => lit_b3
  | 4 => lit_b4
  | 5 => lit_b5
  | 6 => lit_b6
  | 7 => lit_b7
  | 8 => lit_b8
  | 9 => lit_b9
  | 10 => lit_b10
  | 11 => lit_b11
  | 12 => lit_b12
  | 13 => lit_b13
  | 14 => lit_b14
  | 15 => lit_b15
  | 16 => lit_b16
  | 17 => lit_b17
  | 18 => lit_b18
  | 19 => lit_b19
  | 20 => lit_b20
  | 21 => lit_b21
  | 22 => lit_b22
  | 23 => lit_b23
  | 24 => lit_b24
  | 25 => lit_b25
  | 26 => lit_b26
  | 27 => lit_b27
  | 28 => lit_b28
  | 29 => lit_b29
  | 30 => lit_b30
  | 31 => lit_b31
  | ⟨_ + 32, h⟩ => absurd h (Nat.not_lt.2 (Nat.le_add_left _ _))

end Cert.Proof.Lit

end
-- ==== Proof.LitB.lean ====
/-
  The kernel's row table, entries 8192 to 16383: each is the formula's (`LitDefs.lean`), block by block of 256.
-/
module

public import proofs.«01_k».proof.Proof.LitDefs
public import Mathlib.Tactic.IntervalCases

@[expose] public section

namespace Cert.Proof.Lit

set_option maxRecDepth 100000

theorem lit_b32 : litBlock 32 = true := by decide +kernel
theorem lit_b33 : litBlock 33 = true := by decide +kernel
theorem lit_b34 : litBlock 34 = true := by decide +kernel
theorem lit_b35 : litBlock 35 = true := by decide +kernel
theorem lit_b36 : litBlock 36 = true := by decide +kernel
theorem lit_b37 : litBlock 37 = true := by decide +kernel
theorem lit_b38 : litBlock 38 = true := by decide +kernel
theorem lit_b39 : litBlock 39 = true := by decide +kernel
theorem lit_b40 : litBlock 40 = true := by decide +kernel
theorem lit_b41 : litBlock 41 = true := by decide +kernel
theorem lit_b42 : litBlock 42 = true := by decide +kernel
theorem lit_b43 : litBlock 43 = true := by decide +kernel
theorem lit_b44 : litBlock 44 = true := by decide +kernel
theorem lit_b45 : litBlock 45 = true := by decide +kernel
theorem lit_b46 : litBlock 46 = true := by decide +kernel
theorem lit_b47 : litBlock 47 = true := by decide +kernel
theorem lit_b48 : litBlock 48 = true := by decide +kernel
theorem lit_b49 : litBlock 49 = true := by decide +kernel
theorem lit_b50 : litBlock 50 = true := by decide +kernel
theorem lit_b51 : litBlock 51 = true := by decide +kernel
theorem lit_b52 : litBlock 52 = true := by decide +kernel
theorem lit_b53 : litBlock 53 = true := by decide +kernel
theorem lit_b54 : litBlock 54 = true := by decide +kernel
theorem lit_b55 : litBlock 55 = true := by decide +kernel
theorem lit_b56 : litBlock 56 = true := by decide +kernel
theorem lit_b57 : litBlock 57 = true := by decide +kernel
theorem lit_b58 : litBlock 58 = true := by decide +kernel
theorem lit_b59 : litBlock 59 = true := by decide +kernel
theorem lit_b60 : litBlock 60 = true := by decide +kernel
theorem lit_b61 : litBlock 61 = true := by decide +kernel
theorem lit_b62 : litBlock 62 = true := by decide +kernel
theorem lit_b63 : litBlock 63 = true := by decide +kernel

/-- Blocks 32 to 63. -/
theorem litB : (r : Fin 32) → litBlock (32 + r.val) = true := fun r => match r with
  | 0 => lit_b32
  | 1 => lit_b33
  | 2 => lit_b34
  | 3 => lit_b35
  | 4 => lit_b36
  | 5 => lit_b37
  | 6 => lit_b38
  | 7 => lit_b39
  | 8 => lit_b40
  | 9 => lit_b41
  | 10 => lit_b42
  | 11 => lit_b43
  | 12 => lit_b44
  | 13 => lit_b45
  | 14 => lit_b46
  | 15 => lit_b47
  | 16 => lit_b48
  | 17 => lit_b49
  | 18 => lit_b50
  | 19 => lit_b51
  | 20 => lit_b52
  | 21 => lit_b53
  | 22 => lit_b54
  | 23 => lit_b55
  | 24 => lit_b56
  | 25 => lit_b57
  | 26 => lit_b58
  | 27 => lit_b59
  | 28 => lit_b60
  | 29 => lit_b61
  | 30 => lit_b62
  | 31 => lit_b63
  | ⟨_ + 32, h⟩ => absurd h (Nat.not_lt.2 (Nat.le_add_left _ _))

end Cert.Proof.Lit

end
-- ==== Proof.LitC.lean ====
/-
  The kernel's row table, entries 16384 to 24575: each is the formula's (`LitDefs.lean`), block by block of 256.
-/
module

public import proofs.«01_k».proof.Proof.LitDefs
public import Mathlib.Tactic.IntervalCases

@[expose] public section

namespace Cert.Proof.Lit

set_option maxRecDepth 100000

theorem lit_b64 : litBlock 64 = true := by decide +kernel
theorem lit_b65 : litBlock 65 = true := by decide +kernel
theorem lit_b66 : litBlock 66 = true := by decide +kernel
theorem lit_b67 : litBlock 67 = true := by decide +kernel
theorem lit_b68 : litBlock 68 = true := by decide +kernel
theorem lit_b69 : litBlock 69 = true := by decide +kernel
theorem lit_b70 : litBlock 70 = true := by decide +kernel
theorem lit_b71 : litBlock 71 = true := by decide +kernel
theorem lit_b72 : litBlock 72 = true := by decide +kernel
theorem lit_b73 : litBlock 73 = true := by decide +kernel
theorem lit_b74 : litBlock 74 = true := by decide +kernel
theorem lit_b75 : litBlock 75 = true := by decide +kernel
theorem lit_b76 : litBlock 76 = true := by decide +kernel
theorem lit_b77 : litBlock 77 = true := by decide +kernel
theorem lit_b78 : litBlock 78 = true := by decide +kernel
theorem lit_b79 : litBlock 79 = true := by decide +kernel
theorem lit_b80 : litBlock 80 = true := by decide +kernel
theorem lit_b81 : litBlock 81 = true := by decide +kernel
theorem lit_b82 : litBlock 82 = true := by decide +kernel
theorem lit_b83 : litBlock 83 = true := by decide +kernel
theorem lit_b84 : litBlock 84 = true := by decide +kernel
theorem lit_b85 : litBlock 85 = true := by decide +kernel
theorem lit_b86 : litBlock 86 = true := by decide +kernel
theorem lit_b87 : litBlock 87 = true := by decide +kernel
theorem lit_b88 : litBlock 88 = true := by decide +kernel
theorem lit_b89 : litBlock 89 = true := by decide +kernel
theorem lit_b90 : litBlock 90 = true := by decide +kernel
theorem lit_b91 : litBlock 91 = true := by decide +kernel
theorem lit_b92 : litBlock 92 = true := by decide +kernel
theorem lit_b93 : litBlock 93 = true := by decide +kernel
theorem lit_b94 : litBlock 94 = true := by decide +kernel
theorem lit_b95 : litBlock 95 = true := by decide +kernel

/-- Blocks 64 to 95. -/
theorem litC : (r : Fin 32) → litBlock (64 + r.val) = true := fun r => match r with
  | 0 => lit_b64
  | 1 => lit_b65
  | 2 => lit_b66
  | 3 => lit_b67
  | 4 => lit_b68
  | 5 => lit_b69
  | 6 => lit_b70
  | 7 => lit_b71
  | 8 => lit_b72
  | 9 => lit_b73
  | 10 => lit_b74
  | 11 => lit_b75
  | 12 => lit_b76
  | 13 => lit_b77
  | 14 => lit_b78
  | 15 => lit_b79
  | 16 => lit_b80
  | 17 => lit_b81
  | 18 => lit_b82
  | 19 => lit_b83
  | 20 => lit_b84
  | 21 => lit_b85
  | 22 => lit_b86
  | 23 => lit_b87
  | 24 => lit_b88
  | 25 => lit_b89
  | 26 => lit_b90
  | 27 => lit_b91
  | 28 => lit_b92
  | 29 => lit_b93
  | 30 => lit_b94
  | 31 => lit_b95
  | ⟨_ + 32, h⟩ => absurd h (Nat.not_lt.2 (Nat.le_add_left _ _))

end Cert.Proof.Lit

end
-- ==== Proof.LitD.lean ====
/-
  The kernel's row table, entries 24576 to 32767: each is the formula's (`LitDefs.lean`), block by block of 256.
-/
module

public import proofs.«01_k».proof.Proof.LitDefs
public import Mathlib.Tactic.IntervalCases

@[expose] public section

namespace Cert.Proof.Lit

set_option maxRecDepth 100000

theorem lit_b96 : litBlock 96 = true := by decide +kernel
theorem lit_b97 : litBlock 97 = true := by decide +kernel
theorem lit_b98 : litBlock 98 = true := by decide +kernel
theorem lit_b99 : litBlock 99 = true := by decide +kernel
theorem lit_b100 : litBlock 100 = true := by decide +kernel
theorem lit_b101 : litBlock 101 = true := by decide +kernel
theorem lit_b102 : litBlock 102 = true := by decide +kernel
theorem lit_b103 : litBlock 103 = true := by decide +kernel
theorem lit_b104 : litBlock 104 = true := by decide +kernel
theorem lit_b105 : litBlock 105 = true := by decide +kernel
theorem lit_b106 : litBlock 106 = true := by decide +kernel
theorem lit_b107 : litBlock 107 = true := by decide +kernel
theorem lit_b108 : litBlock 108 = true := by decide +kernel
theorem lit_b109 : litBlock 109 = true := by decide +kernel
theorem lit_b110 : litBlock 110 = true := by decide +kernel
theorem lit_b111 : litBlock 111 = true := by decide +kernel
theorem lit_b112 : litBlock 112 = true := by decide +kernel
theorem lit_b113 : litBlock 113 = true := by decide +kernel
theorem lit_b114 : litBlock 114 = true := by decide +kernel
theorem lit_b115 : litBlock 115 = true := by decide +kernel
theorem lit_b116 : litBlock 116 = true := by decide +kernel
theorem lit_b117 : litBlock 117 = true := by decide +kernel
theorem lit_b118 : litBlock 118 = true := by decide +kernel
theorem lit_b119 : litBlock 119 = true := by decide +kernel
theorem lit_b120 : litBlock 120 = true := by decide +kernel
theorem lit_b121 : litBlock 121 = true := by decide +kernel
theorem lit_b122 : litBlock 122 = true := by decide +kernel
theorem lit_b123 : litBlock 123 = true := by decide +kernel
theorem lit_b124 : litBlock 124 = true := by decide +kernel
theorem lit_b125 : litBlock 125 = true := by decide +kernel
theorem lit_b126 : litBlock 126 = true := by decide +kernel
theorem lit_b127 : litBlock 127 = true := by decide +kernel

/-- Blocks 96 to 127. -/
theorem litD : (r : Fin 32) → litBlock (96 + r.val) = true := fun r => match r with
  | 0 => lit_b96
  | 1 => lit_b97
  | 2 => lit_b98
  | 3 => lit_b99
  | 4 => lit_b100
  | 5 => lit_b101
  | 6 => lit_b102
  | 7 => lit_b103
  | 8 => lit_b104
  | 9 => lit_b105
  | 10 => lit_b106
  | 11 => lit_b107
  | 12 => lit_b108
  | 13 => lit_b109
  | 14 => lit_b110
  | 15 => lit_b111
  | 16 => lit_b112
  | 17 => lit_b113
  | 18 => lit_b114
  | 19 => lit_b115
  | 20 => lit_b116
  | 21 => lit_b117
  | 22 => lit_b118
  | 23 => lit_b119
  | 24 => lit_b120
  | 25 => lit_b121
  | 26 => lit_b122
  | 27 => lit_b123
  | 28 => lit_b124
  | 29 => lit_b125
  | 30 => lit_b126
  | 31 => lit_b127
  | ⟨_ + 32, h⟩ => absurd h (Nat.not_lt.2 (Nat.le_add_left _ _))

end Cert.Proof.Lit

end
-- ==== Proof.Lit.lean ====
/-
  The kernel's row table as a whole: every entry is the formula's, the formula's two directions undo one another, and a
  node's children are put one and two level widths after it.
-/
module

public import proofs.«01_k».proof.Proof.LitA
public import proofs.«01_k».proof.Proof.LitB
public import proofs.«01_k».proof.Proof.LitC
public import proofs.«01_k».proof.Proof.LitD

@[expose] public section

namespace Cert.Proof.Lit

theorem litBlocks (b : Nat) (hb : b < 128) : litBlock b = true := by
  rcases Nat.lt_or_ge b 32 with h | h
  · have := litA ⟨b, h⟩; rwa [Nat.zero_add] at this
  rcases Nat.lt_or_ge b 64 with h' | h'
  · have := litB ⟨b - 32, by omega⟩; rwa [show 32 + (b - 32) = b by omega] at this
  rcases Nat.lt_or_ge b 96 with h'' | h''
  · have := litC ⟨b - 64, by omega⟩; rwa [show 64 + (b - 64) = b by omega] at this
  · have := litD ⟨b - 96, by omega⟩; rwa [show 96 + (b - 96) = b by omega] at this

/-- Every entry of the table is `pos`'s. -/
theorem lit0t_eq (r : Nat) (hr : r < 32768) : Cert.KernelIdeal.lit0t r = BitVec.ofNat 32 (pos r) := by
  have h := of_allBelow (litBlocks (r / 256) (by omega)) (r % 256) (by omega)
  rw [Nat.div_add_mod] at h
  exact eq_of_beq h

set_option maxRecDepth 100000 in
theorem nodeTable : allBelow (fun n => decide (inv n < 2048) && decide (node n < 2048) && (node (inv n) == n) && (inv (node n) == n)) 2048 = true := by
  decide +kernel

theorem nodeFacts {n : Nat} (hn : n < 2048) : inv n < 2048 ∧ node n < 2048 ∧ node (inv n) = n ∧ inv (node n) = n := by
  have h := of_allBelow nodeTable n hn
  simp only [Bool.and_eq_true, decide_eq_true_eq, beq_iff_eq] at h
  exact ⟨h.1.1.1, h.1.1.2, h.1.2, h.2⟩

theorem pos_lt {r : Nat} (hr : r < 32768) : pos r < 32768 := by
  have := (nodeFacts (Nat.mod_lt r (by decide : 0 < 2048))).1
  unfold pos; omega

theorem src_lt {p : Nat} (hp : p < 32768) : src p < 32768 := by
  have := (nodeFacts (Nat.mod_lt p (by decide : 0 < 2048))).2.1
  unfold src; omega

/-- `src` undoes `pos`. -/
theorem src_pos (r : Nat) : src (pos r) = r := by
  obtain ⟨h1, -, h3, -⟩ := nodeFacts (Nat.mod_lt r (by decide : 0 < 2048))
  unfold src pos
  rw [show (r / 2048 * 2048 + inv (r % 2048)) / 2048 = r / 2048 by omega,
    show (r / 2048 * 2048 + inv (r % 2048)) % 2048 = inv (r % 2048) by omega, h3]
  omega

/-- `pos` undoes `src`. -/
theorem pos_src (p : Nat) : pos (src p) = p := by
  obtain ⟨-, h1, -, h3⟩ := nodeFacts (Nat.mod_lt p (by decide : 0 < 2048))
  unfold src pos
  rw [show (p / 2048 * 2048 + node (p % 2048)) / 2048 = p / 2048 by omega,
    show (p / 2048 * 2048 + node (p % 2048)) % 2048 = node (p % 2048) by omega, h3]
  omega

/-- The entry as a number. -/
theorem lit0t_toNat (r : Nat) (hr : r < 32768) : (Cert.KernelIdeal.lit0t r).toNat = pos r := by
  rw [lit0t_eq r hr, BitVec.toNat_ofNat]
  exact Nat.mod_eq_of_lt (lt_trans (pos_lt hr) (by decide))

/-- Where the children of a node are put: level `l`'s node at place `p` has its two a level's width and two levels' widths further on. -/
theorem childTable : allBelow (fun n => decide (1023 ≤ n) || ((inv (2 * n + 1) == inv n + 2 ^ Nat.log2 (n + 1)) && (inv (2 * n + 2) == inv n + 2 * 2 ^ Nat.log2 (n + 1)))) 1023 = true := by
  set_option maxRecDepth 100000 in decide +kernel

theorem inv_child {n : Nat} (hn : n < 1023) :
    inv (2 * n + 1) = inv n + 2 ^ Nat.log2 (n + 1) ∧ inv (2 * n + 2) = inv n + 2 * 2 ^ Nat.log2 (n + 1) := by
  have h := of_allBelow childTable n hn
  simp only [Bool.or_eq_true, Bool.and_eq_true, decide_eq_true_eq, beq_iff_eq] at h
  rcases h with h | h
  · omega
  · exact h

end Cert.Proof.Lit

end
-- ==== Proof.Setup.lean ====
/-
  The program as the launch theorem sees it, the ghost state, the arrays the SparseCore call works on, and what the call
  leaves in its result: row `p` of `main_v2` is the row of the embedding table that token `src p` names (`gathered`).
  Tile (core `c`, subcore `s`) has tree `s`'s half `c`: entries `2048 s + 1024 c + k` of the flattened tokens, and the rows
  of the result those entries go to (`tileRows`), eight chunks of 128 (`chunkRows`).
-/
module

public import proofs.«01_k».proof.Proof.Lit
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.ShareLeaves
public import Idealize.ShloMosaic.Lib.ValueLayout
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm

section
variable [FloatOps F]
abbrev K : SparseCore.Cfg τ sig (ΛP (F := F)) 1 := sc (F := F)
abbrev D : Defs nD τ sig (Elt F) (ΛP (F := F)) := Pipeline.defs pcfgs defs₀
end

abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's, the transfers' counters -/

abbrev UH : Type := URounds (GSem nD τ sig) ℕ
abbrev UP : Type := Idealize.ShloMosaic.UR sig nD τ
abbrev UU : Type := UH × UP × Counters

local notation "𝕄" => MT nD τ sig (HIx 1) (Elt F) ℕ UU ℕ

abbrev EH : Emb UH (MT nD τ sig (HIx 1) (Elt F) ℕ UU ℕ) := embL
/-- The pipeline's rounds library: the right factor's left one. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ 𝕄) := by unfold EP; infer_instance

/-! ## The launch memory, the arrays, and what they hold -/

variable (m : (ℓ : Loc nD τ sig) → Buf (Elt F) ℓ)

abbrev aLoc (d : Dev nD) : Loc nD τ sig := (SparseCore.T d).loc main_arg0
abbrev eLoc (d : Dev nD) : Loc nD τ sig := (SparseCore.T d).loc main_arg1
abbrev tLoc (d : Dev nD) : Loc nD τ sig := (SparseCore.T d).loc main_v1
abbrev pLoc (d : Dev nD) : Loc nD τ sig := (SparseCore.T d).loc main_c
abbrev oLoc (d : Dev nD) : Loc nD τ sig := (SparseCore.T d).loc main_v2

/-- The padded tokens: each tree's 2047 tokens and one zero. -/
def tokC (d : Dev nD) : S16x2048.Idx → BitVec 32 :=
  concatenate S16x2048 1 [⟨S16x2047, m (aLoc d)⟩, ⟨S16x1, broadcastInDim S16x1 ![] bcast_S_S16x1 (constantI S_ 32 0)⟩]
    concatenates_S16x2047_S16x1_S16x2048_d1

/-- The rows the gathered rows go to, as the constant the program holds. -/
def posC : S256x128.Idx → BitVec 32 := fun i => lit0 (S256x128.rowMajor i)

/-- Token `p` of the flattened, padded tokens, as a row of the embedding table. -/
def tokRow (d : Dev nD) (p : ℕ) : Fin 100000 :=
  ⟨(tokC m d (ix2 (⟨p / 2048 % 16, Nat.mod_lt _ (by decide)⟩ : Fin 16) (⟨p % 2048, Nat.mod_lt _ (by decide)⟩ : Fin 2048))).toNat % 100000,
    Nat.mod_lt _ (by decide)⟩

/-- What the SparseCore call leaves in its result: row `p` is the embedding row of token `src p`. -/
def gathered (d : Dev nD) : Buf (Elt F) (oLoc d) := fun y => m (eLoc d) (ix2 (tokRow m d (Lit.src (y 0).val)) (y 1))

/-- The precondition on the launch memory: every token names a row of the embedding table. -/
def PreOK : Prop := ∀ (d : Dev nD) (j : S16x2047.Idx), (m (aLoc d) j).toNat < 100000

end Cert.Proof.Run

end
-- ==== Proof.Views.lean ====
/-
  The views the SparseCore body works through, at a symbolic (SparseCore, tile) pair and a symbolic chunk: the tile's half of
  its tree's tokens (`tokK`), its block of result rows (`posK`), the eight lists of 128 tokens and of 128 result rows
  (`listK`, `rowK`), the six slots of the row scratch (`slotK`), the embedding table and the result (`srcK`, `outK`); where
  each view's indices lie, and that the lists, the rows and the slots split their buffers.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.ShareLeaves Idealize.ShloMosaic.ValueIdx
open Idealize.SL Idealize.SL.RA Idealize.SL.BI
open scoped Idealize.SL.BI
open Idealize.SL.BI.BIBase Idealize.SL.BI.Laws

variable {F : FTy → Type}

local notation "tV" => (Memref.whole Cert.KernelIdeal.main_v1_scv : Memref Cert.KernelIdeal.sig Kind.scVector Space.hbm Cert.KernelIdeal.S16x2048 EltTy.i32)
local notation "pV" => (Memref.whole Cert.KernelIdeal.main_c_scv : Memref Cert.KernelIdeal.sig Kind.scVector Space.hbm Cert.KernelIdeal.S256x128 EltTy.i32)
local notation "eV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S8x128 EltTy.i32)
local notation "bV" => (Memref.whole Cert.KernelIdeal.cc0_scratch2 : Memref Cert.KernelIdeal.sig Kind.scVector Space.vmem Cert.KernelIdeal.S6x128x128 EltTy.f32)

abbrev cV (L : grid0.Coords) : Fin τ.nSC := (L 0).castLE hcore0
abbrev jV (L : grid0.Coords) : Fin τ.nSub := (L 1).castLE hsub0

/-! ## The views -/

abbrev tokK (L : grid0.Coords) : Memref sig .scVector .hbm S1024 .i32 :=
  ((tV).slice (Rect.unit (s := S16x2048) (k0_off1 L) S1x1024.size (k0_off1_inb L)) (fun _ => rfl)).squeeze S1024 squeezes_S1x1024_S1024
abbrev posK (L : grid0.Coords) : Memref sig .scVector .hbm S8x128 .i32 :=
  (pV).slice (Rect.unit (s := S256x128) (k0_off2 L) S8x128.size (k0_off2_inb L)) (fun _ => rfl)
abbrev srcK : Memref sig .scVector .hbm S100000x128 .f32 :=
  (eV).slice (Rect.unit (s := S100000x128) ![0, 0] S100000x128.size inb_S100000x128_S100000x128_0_0) (fun _ => rfl)
abbrev outK : Memref sig .scVector .hbm S32768x128 .f32 :=
  (oV).slice (Rect.unit (s := S32768x128) ![0, 0] S32768x128.size inb_S32768x128_S32768x128_0_0) (fun _ => rfl)

theorem inb_list (j : Fin 8) : ∀ a, (![128 * j.val] : Fin 1 → ℕ) a + S128.size a ≤ S1024.size a := by
  revert j; decide
theorem inb_row (j : Fin 8) : ∀ a, (![j.val, 0] : Fin 2 → ℕ) a + S1x128.size a ≤ S8x128.size a := by
  revert j; decide
theorem inb_slot (s : Fin 6) : ∀ a, (![s.val, 0, 0] : Fin 3 → ℕ) a + S1x128x128.size a ≤ S6x128x128.size a := by
  revert s; decide

/-- Chunk `j` of the token scratch: the 128 tokens of one gather. -/
abbrev listK (j : Fin 8) : Memref sig .scVector .vmem S128 .i32 :=
  (lV).slice (Rect.unit (s := S1024) ![128 * j.val] S128.size (inb_list j)) (fun _ => rfl)
/-- Row `j` of the scratch of result rows: where one scatter's rows go. -/
abbrev rowK (j : Fin 8) : Memref sig .scVector .vmem S128 .i32 :=
  ((rV).slice (Rect.unit (s := S8x128) ![j.val, 0] S1x128.size (inb_row j)) (fun _ => rfl)).squeeze S128 squeezes_S1x128_S128
/-- Slot `s` of the row scratch. -/
abbrev slotK (s : Fin 6) : Memref sig .scVector .vmem S128x128 .f32 :=
  ((bV).slice (Rect.unit (s := S6x128x128) ![s.val, 0, 0] S1x128x128.size (inb_slot s)) (fun _ => rfl)).squeeze S128x128 squeezes_S1x128x128_S128x128

/-! ## Where their indices lie -/

theorem off1_eq : ∀ L : grid0.Coords, k0_off1 L = ![(L 1).val, 1024 * (L 0).val] := by decide +kernel

theorem cL_lt (L : grid0.Coords) : (L 0).val < 2 := (L 0).isLt
theorem sL_lt (L : grid0.Coords) : (L 1).val < 16 := (L 1).isLt

/-- The tile's number: twice its tree plus its half. -/
def wid (L : grid0.Coords) : ℕ := 2 * (L 1).val + (L 0).val
theorem wid_lt (L : grid0.Coords) : wid L < 32 := by have := cL_lt L; have := sL_lt L; unfold wid; omega

theorem reshape_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- Entry `k` of the tile's tokens lies in its tree's row, in its half. -/
theorem emb_tokK (L : grid0.Coords) (k : Fin 1024) :
    (tokK L).view.emb (ix1 k) = (ix2 (⟨(L 1).val, sL_lt L⟩ : Fin 16) (⟨1024 * (L 0).val + k.val, by have := cL_lt L; omega⟩ : Fin 2048) : S16x2048.Idx) := by
  show (Rect.unit (s := S16x2048) (k0_off1 L) S1x1024.size (k0_off1_inb L)).emb (Shape.reshapeEquiv _ (ix1 k)) = _
  rw [reshape_ix1_1a]
  funext a; apply Fin.ext
  rw [Rect.emb_apply]
  have h := off1_eq L
  match a with
  | 0 => show k0_off1 L 0 + 1 * 0 = (L 1).val; rw [h]; rfl
  | 1 => show k0_off1 L 1 + 1 * k.val = 1024 * (L 0).val + k.val; rw [h, Nat.one_mul]; rfl

/-- Entry `(a, b)` of the tile's block of result rows. -/
theorem emb_posK (L : grid0.Coords) (a : Fin 8) (b : Fin 128) :
    (posK L).view.emb (ix2 a b) = (ix2 (⟨8 * wid L + a.val, by have := wid_lt L; omega⟩ : Fin 256) b : S256x128.Idx) := by
  show (Rect.unit (s := S256x128) (k0_off2 L) S8x128.size (k0_off2_inb L)).emb (ix2 a b) = _
  funext x; apply Fin.ext
  rw [Rect.emb_apply]
  have h := k0_off2_eq L
  match x with
  | 0 => show k0_off2 L 0 + 1 * a.val = 8 * wid L + a.val; rw [h]; show 16 * (L 1).val + 8 * (L 0).val + 1 * a.val = _; unfold wid; omega
  | 1 => show k0_off2 L 1 + 1 * b.val = b.val; rw [h]; show 0 + 1 * b.val = _; omega

theorem emb_listK (j : Fin 8) (k : Fin 128) :
    (listK j).view.emb (ix1 k) = (ix1 (⟨128 * j.val + k.val, by omega⟩ : Fin 1024) : S1024.Idx) := by
  show (Rect.unit (s := S1024) ![128 * j.val] S128.size (inb_list j)).emb (ix1 k) = _
  funext x; apply Fin.ext
  rw [Rect.emb_apply]
  match x with
  | 0 => show 128 * j.val + 1 * k.val = 128 * j.val + k.val; omega

theorem emb_rowK (j : Fin 8) (k : Fin 128) : (rowK j).view.emb (ix1 k) = (ix2 j k : S8x128.Idx) := by
  show (Rect.unit (s := S8x128) ![j.val, 0] S1x128.size (inb_row j)).emb (Shape.reshapeEquiv _ (ix1 k)) = _
  rw [reshape_ix1_1a]
  funext x; apply Fin.ext
  rw [Rect.emb_apply]
  match x with
  | 0 => show j.val + 1 * 0 = j.val; omega
  | 1 => show 0 + 1 * k.val = k.val; omega

theorem emb_srcK (x : S100000x128.Idx) : srcK.view.emb x = x := by
  show (Rect.unit (s := S100000x128) ![0, 0] S100000x128.size inb_S100000x128_S100000x128_0_0).emb x = _
  funext a; apply Fin.ext
  rw [Rect.emb_apply]
  match a with
  | 0 => show 0 + 1 * (x 0).val = _; omega
  | 1 => show 0 + 1 * (x 1).val = _; omega

theorem emb_outK (x : S32768x128.Idx) : outK.view.emb x = x := by
  show (Rect.unit (s := S32768x128) ![0, 0] S32768x128.size inb_S32768x128_S32768x128_0_0).emb x = _
  funext a; apply Fin.ext
  rw [Rect.emb_apply]
  match a with
  | 0 => show 0 + 1 * (x 0).val = _; omega
  | 1 => show 0 + 1 * (x 1).val = _; omega

/-! ## The lists, the rows and the slots split their buffers -/

abbrev listSet (j : Fin 8) : Finset S1024.Idx := (listK j).view.set
abbrev rowSet (j : Fin 8) : Finset S8x128.Idx := (rowK j).view.set
abbrev slotSet (s : Fin 6) : Finset S6x128x128.Idx := (slotK s).view.set

theorem ldiv : 8 ∣ S1024.size 0 := ⟨128, rfl⟩
theorem rdiv : 8 ∣ S8x128.size 0 := ⟨1, rfl⟩
theorem sdiv : 6 ∣ S6x128x128.size 0 := ⟨1, rfl⟩

theorem set_listK (j : Fin 8) : (listK j).view.set = (Rect.part (s := S1024) (a₀ := 0) ldiv j).set := by
  show ((View.whole (cc0_scratch0 : Ref sig .scVector)).slice (Rect.unit (s := S1024) ![128 * j.val] S128.size (inb_list j))).set = _
  rw [View.set_slice_whole]
  refine congrArg (fun r : Rect S1024 => r.set) ?_
  unfold Rect.part Rect.block
  congr 1 <;> funext a
  · match a with
    | 0 => simp [Shape.partIx, Shape.partSize, Nat.mul_comm]
  · match a with
    | 0 => simp [Shape.partSize]

theorem set_rowK (j : Fin 8) : (rowK j).view.set = (Rect.part (s := S8x128) (a₀ := 0) rdiv j).set := by
  show (((View.whole (cc0_scratch1 : Ref sig .scVector)).slice (Rect.unit (s := S8x128) ![j.val, 0] S1x128.size (inb_row j))).reshape S128 squeezes_S1x128_S128.numel_eq).set = _
  rw [View.set_reshape, View.set_slice_whole]
  refine congrArg (fun r : Rect S8x128 => r.set) ?_
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_slotK (s : Fin 6) : (slotK s).view.set = (Rect.part (s := S6x128x128) (a₀ := 0) sdiv s).set := by
  show (((View.whole (cc0_scratch2 : Ref sig .scVector)).slice (Rect.unit (s := S6x128x128) ![s.val, 0, 0] S1x128x128.size (inb_slot s))).reshape S128x128 squeezes_S1x128x128_S128x128.numel_eq).set = _
  rw [View.set_reshape, View.set_slice_whole]
  refine congrArg (fun r : Rect S6x128x128 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem lists_cover : (Finset.univ : Finset (Fin 8)).biUnion listSet = Finset.univ :=
  (Finset.biUnion_congr rfl fun j _ => set_listK j).trans (Rect.biUnion_part ldiv)
theorem rows_cover : (Finset.univ : Finset (Fin 8)).biUnion rowSet = Finset.univ :=
  (Finset.biUnion_congr rfl fun j _ => set_rowK j).trans (Rect.biUnion_part rdiv)
theorem slots_cover : (Finset.univ : Finset (Fin 6)).biUnion slotSet = Finset.univ :=
  (Finset.biUnion_congr rfl fun j _ => set_slotK j).trans (Rect.biUnion_part sdiv)
theorem lists_disjoint : ∀ i ∈ (Finset.univ : Finset (Fin 8)), ∀ j ∈ (Finset.univ : Finset (Fin 8)), i ≠ j → Disjoint (listSet i) (listSet j) :=
  fun i _ j _ h => by unfold listSet; rw [set_listK, set_listK]; exact Rect.part_disjoint ldiv h
theorem rows_disjoint : ∀ i ∈ (Finset.univ : Finset (Fin 8)), ∀ j ∈ (Finset.univ : Finset (Fin 8)), i ≠ j → Disjoint (rowSet i) (rowSet j) :=
  fun i _ j _ h => by unfold rowSet; rw [set_rowK, set_rowK]; exact Rect.part_disjoint rdiv h
theorem slots_disjoint : ∀ i ∈ (Finset.univ : Finset (Fin 6)), ∀ j ∈ (Finset.univ : Finset (Fin 6)), i ≠ j → Disjoint (slotSet i) (slotSet j) :=
  fun i _ j _ h => by unfold slotSet; rw [set_slotK, set_slotK]; exact Rect.part_disjoint sdiv h

/-! ## The result's rows, by tile and by chunk -/

/-- The rows of the result whose token the tile `w` fetches in its chunk `j`; -/
def chunkRows (w : ℕ) (j : Fin 8) : Finset S32768x128.Idx := Finset.univ.filter fun y => Lit.src (y 0).val / 128 = 8 * w + j.val
/-- and in all its chunks. -/
def tileRows (w : ℕ) : Finset S32768x128.Idx := Finset.univ.filter fun y => Lit.src (y 0).val / 1024 = w

theorem chunks_cover (w : ℕ) : (Finset.univ : Finset (Fin 8)).biUnion (chunkRows w) = tileRows w := by
  ext y
  simp only [chunkRows, tileRows, Finset.mem_biUnion, Finset.mem_univ, true_and, Finset.mem_filter]
  constructor
  · rintro ⟨j, h⟩; omega
  · intro h; exact ⟨⟨Lit.src (y 0).val / 128 % 8, by omega⟩, by show _ = 8 * w + Lit.src (y 0).val / 128 % 8; omega⟩
theorem chunks_disjoint (w : ℕ) : ∀ i ∈ (Finset.univ : Finset (Fin 8)), ∀ j ∈ (Finset.univ : Finset (Fin 8)), i ≠ j → Disjoint (chunkRows w i) (chunkRows w j) :=
  fun i _ j _ h => Finset.disjoint_left.mpr fun y hi hj => by
    simp only [chunkRows, Finset.mem_filter, Finset.mem_univ, true_and] at hi hj
    exact h (Fin.ext (by omega))
theorem tiles_cover : (Finset.univ : Finset (Fin 32)).biUnion (fun w => tileRows w.val) = Finset.univ := by
  ext y
  simp only [tileRows, Finset.mem_biUnion, Finset.mem_univ, true_and, Finset.mem_filter, iff_true]
  have := Lit.src_lt (p := (y 0).val) (y 0).isLt
  exact ⟨⟨Lit.src (y 0).val / 1024, by omega⟩, rfl⟩
theorem tiles_disjoint : ∀ i ∈ (Finset.univ : Finset (Fin 32)), ∀ j ∈ (Finset.univ : Finset (Fin 32)), i ≠ j → Disjoint (tileRows i.val) (tileRows j.val) :=
  fun i _ j _ h => Finset.disjoint_left.mpr fun y hi hj => by
    simp only [tileRows, Finset.mem_filter, Finset.mem_univ, true_and] at hi hj
    exact h (Fin.ext (by omega))

end Cert.Proof.Run

end
-- ==== Proof.Tokens.lean ====
/-
  The padded tokens: below the vocabulary's size when the tokens are (`tokC_lt`), and at every entry but the last of a tree
  the token itself (`tokC_apply`).
-/
module

public import proofs.«01_k».proof.Proof.Setup
import Idealize.ShloMosaic.Lib.Pointwise.SelectCore
public import Idealize.ShloMosaic.Lib.Pipeline.Value

@[expose] public section

noncomputable section

namespace Cert.Proof.Run

open Cert.KernelIdeal Cert.KernelIdeal.Gen Idealize.ShloMosaic

variable {F : FTy → Type} (m : (ℓ : Loc nD τ sig) → Buf (Elt F) ℓ) (d : Dev nD)

theorem tokC_lt (hpre : PreOK m) (i : S16x2048.Idx) : (tokC m d i).toNat < 100000 := by
  unfold tokC
  rw [concatenate_pair_apply]
  split
  · exact hpre d _
  · show (0#32).toNat < 100000; decide

theorem tokC_apply (t : Fin 16) (p : Fin 2047) :
    tokC m d (ValueIdx.ix2 t (⟨p.val, by omega⟩ : Fin 2048)) = m (aLoc d) (ValueIdx.ix2 t p) := by
  unfold tokC
  refine concatenate_pair_apply_left (t := S16x2048) (s₁ := S16x2047) 1 _ _ _ _ rfl (ValueIdx.ix2 t p) fun b => ?_
  match b with
  | 0 => rfl
  | 1 => rfl

end Cert.Proof.Run

end
-- ==== Proof.Chunks.lean ====
/-
  What the SparseCore body holds and moves, at a symbolic tile, chunk and slot: the lists it fetches (`toks`, `poss`), the
  assertions its steps are stated over (`EmbP` … `ScaP`), the rows a gather reads (`gather_value`) and the rows a scatter
  names (`namedRows_chunk`).
-/
module

public import proofs.«01_k».proof.Proof.Views
public import proofs.«01_k».proof.Proof.Tokens

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A transfer in flight delivers whatever its delivery entails. -/
theorem flight_mono {c : Thread nD τ} {sm : SemLoc sig} {ι : HIx 1} {N : ℕ} {A B : sProp 𝕄} (h : A ⊢ B) :
    Transfers.Flight countersEmb c sm ι N A ⊢ (Transfers.Flight countersEmb c sm ι N B : sProp 𝕄) := by
  unfold Transfers.Flight
  iintro ⟨⟨%R, HR, %hcap, %hpeek⟩, Hcred⟩
  isplitl [HR]
  · iexists R
    isplitl [HR]; · iexact HR
    isplit
    · ipureintro
      intro K
      refine BIBase.Entails.trans ?_ (hcap K)
      iintro ⟨HR, HK⟩
      isplitl [HR]; · iexact HR
      iintro ⟨Hv, HD⟩
      iapply HK
      isplitl [Hv]; · iexact Hv
      iapply h; iexact HD
    · ipureintro; exact hpeek
  · iexact Hcred

variable (m : (ℓ : Loc nD τ sig) → Buf (Elt F) ℓ) (d : Dev nD) (L : grid0.Coords)

/-- The thread of the tile. -/
abbrev thr : Thread nD τ := V d (cV L) (jV L)

/-! ## The lists -/

/-- What the token fetch lands: the tile's half of its tree's tokens. -/
def toks : Buf (Elt F) ((thr d L).loc cc0_scratch0) := (tokK L).view.read (Elt F) (tokC m d)
/-- What the position fetch lands: the tile's block of result rows. -/
def poss : Buf (Elt F) ((thr d L).loc cc0_scratch1) := (posK L).view.read (Elt F) posC

theorem toks_read (j : Fin 8) (k : Fin 128) :
    (listK j).view.read (Elt F) (toks m d L) (ix1 k)
      = tokC m d (ix2 (⟨(L 1).val, sL_lt L⟩ : Fin 16) (⟨1024 * (L 0).val + (128 * j.val + k.val), by have := cL_lt L; omega⟩ : Fin 2048)) := by
  rw [View.read_apply, emb_listK]
  show (tokK L).view.read (Elt F) (tokC m d) (ix1 _) = _
  rw [View.read_apply, emb_tokK]; rfl

theorem toks_lt (hpre : PreOK m) (j : Fin 8) : ∀ x, ((listK j).view.read (Elt F) (toks m d L) x).toNat < S100000x128.size gathers_S100000x128_S128x128.axis := by
  intro x
  obtain ⟨k, rfl⟩ : ∃ k : Fin 128, x = ix1 k := ⟨x 0, eq_ix1 x⟩
  rw [toks_read]
  exact tokC_lt m d hpre _

theorem poss_read (j : Fin 8) (k : Fin 128) :
    ((rowK j).view.read (Elt F) (poss (F := F) d L) (ix1 k)).toNat = Lit.pos (1024 * wid L + 128 * j.val + k.val) := by
  have hw := wid_lt L
  rw [View.read_apply, emb_rowK]
  show ((posK L).view.read (Elt F) posC (ix2 j k)).toNat = _
  rw [View.read_apply, emb_posK]
  have hr : (S256x128.rowMajor (ix2 (⟨8 * wid L + j.val, by omega⟩ : Fin 256) k)).val = (8 * wid L + j.val) * 128 + k.val := by
    rw [Shape.rowMajor_val_two]; rfl
  show (lit0t (S256x128.rowMajor (ix2 (⟨8 * wid L + j.val, by omega⟩ : Fin 256) k)).val).toNat = _
  rw [hr, Lit.lit0t_toNat _ (by omega)]
  congr 1
  omega

theorem poss_lt (j : Fin 8) : ∀ x, ((rowK j).view.read (Elt F) (poss (F := F) d L) x).toNat < S32768x128.size gathers_S32768x128_S128x128.axis := by
  intro x
  have hw := wid_lt L
  obtain ⟨k, rfl⟩ : ∃ k : Fin 128, x = ix1 k := ⟨x 0, eq_ix1 x⟩
  rw [poss_read]
  exact Lit.pos_lt (by omega)

theorem poss_inj (j : Fin 8) : Function.Injective fun x => ((rowK j).view.read (Elt F) (poss (F := F) d L) x).toNat := by
  intro x y h
  obtain ⟨k, rfl⟩ : ∃ k : Fin 128, x = ix1 k := ⟨x 0, eq_ix1 x⟩
  obtain ⟨l, rfl⟩ : ∃ k : Fin 128, y = ix1 k := ⟨y 0, eq_ix1 y⟩
  beta_reduce at h
  rw [poss_read, poss_read] at h
  have h' := congrArg Lit.src h
  rw [Lit.src_pos, Lit.src_pos] at h'
  congr 1
  exact Fin.ext (by omega)

/-! ## What is held -/

/-- Entry `k` of chunk `j` of the tile, as an entry of the flattened tokens. -/
abbrev entry (j : Fin 8) (k : ℕ) : ℕ := 1024 * wid L + 128 * j.val + k

/-- The tile's share of the embedding table, cut in eight: one piece for each gather. -/
abbrev eq (w : Fin 32) : PosShare TreeShare := leaf 5 fullShare w
def EmbP (j : Fin 8) : sProp 𝕄 :=
  srcK.view.loc (thr d L) ↦[srcK.view.set]{leaf 3 (eq ⟨wid L, wid_lt L⟩) j} m (eLoc d)
def LstP (j : Fin 8) : sProp 𝕄 := (listK j).view.loc (thr d L) ↦[(listK j).view.set]{fullShare} toks m d L
def RowP (j : Fin 8) : sProp 𝕄 := (rowK j).view.loc (thr d L) ↦[(rowK j).view.set]{fullShare} poss (F := F) d L
def SlotP (s : Fin 6) : sProp 𝕄 := iprop(∃ f, (slotK s).view.loc (thr d L) ↦[(slotK s).view.set]{fullShare} f)
/-- Slot `s` holding chunk `j`'s embedding rows. -/
def FullP (j : Fin 8) (s : Fin 6) : sProp 𝕄 :=
  iprop(∃ f, ⌜∀ x : S128x128.Idx, (slotK s).view.read (Elt F) f x = m (eLoc d) (ix2 (tokRow m d (entry L j (x 0).val)) (x 1))⌝
    ∗ (slotK s).view.loc (thr d L) ↦[(slotK s).view.set]{fullShare} f)
def OutP (j : Fin 8) (f : Buf (Elt F) (oLoc d)) : sProp 𝕄 := oLoc d ↦[chunkRows (wid L) j]{fullShare} f
def SemP (sem : DmaSem sig) : sProp 𝕄 := semVal (thr d L, SemLoc.dma sem) 0
/-- Chunk `j`'s gather into slot `s` in flight; -/
def GatP (j : Fin 8) (s : Fin 6) (sem : DmaSem sig) : sProp 𝕄 :=
  Transfers.Flight countersEmb (thr d L) (.dma sem) (default : HIx 1) (slotK s).view.dmaCredit iprop(FullP m d L j s ∗ EmbP m d L j ∗ LstP m d L j)
/-- its scatter out of slot `s` in flight. -/
def ScaP (j : Fin 8) (s : Fin 6) (sem : DmaSem sig) : sProp 𝕄 :=
  Transfers.Flight countersEmb (thr d L) (.dma sem) (default : HIx 1) (slotK s).view.dmaCredit
    iprop(OutP d L j (gathered m d) ∗ SlotP d L s ∗ RowP d L j)
/-- What the thread owes, the waits made so far recorded. -/
def OwP (O : CellTallies nD τ sig (HIx 1)) (W : Waits sig (HIx 1)) : sProp 𝕄 :=
  iprop(∃ W', ⌜∀ p ∈ W', p ∈ W ∨ p.2 = none⌝ ∗ owes (thr d L) O W')

/-! ## The values -/

theorem entry_split (j : Fin 8) (k : Fin 128) :
    entry L j k.val / 2048 % 16 = (L 1).val ∧ entry L j k.val % 2048 = 1024 * (L 0).val + (128 * j.val + k.val) := by
  have hc := cL_lt L; have hs := sL_lt L
  unfold entry wid; omega

theorem tokRow_entry (hpre : PreOK m) (j : Fin 8) (k : Fin 128) :
    (tokRow m d (entry L j k.val)).val = ((listK j).view.read (Elt F) (toks m d L) (ix1 k)).toNat := by
  rw [toks_read]
  unfold tokRow
  obtain ⟨h1, h2⟩ := entry_split L j k
  simp only [h1, h2]
  exact Nat.mod_eq_of_lt (tokC_lt m d hpre _)

/-- The gather's payload: row `x 0` is the embedding row of the chunk's token `x 0`. -/
theorem gather_value (hpre : PreOK m) (j : Fin 8) (x : S128x128.Idx) (hn) (hin) :
    SparseCore.gatherPayload gathers_S100000x128_S128x128 (srcK.view.read (Elt F) (m (eLoc d)))
        (SparseCore.rows ((listK j).view.read (Elt F) (toks m d L)) hn hin) x
      = m (eLoc d) (ix2 (tokRow m d (entry L j (x 0).val)) (x 1)) := by
  show srcK.view.read (Elt F) (m (eLoc d)) (gathers_S100000x128_S128x128.idx _ x) = _
  rw [View.read_apply, emb_srcK]
  show m (eLoc d) _ = _
  congr 1
  funext a
  match a with
  | 0 =>
    refine (Shape.Gathers.idx_axis gathers_S100000x128_S128x128 _ x).trans (Fin.ext ?_)
    show ((listK j).view.read (Elt F) (toks m d L) (S128.rowMajor.symm _)).toNat = (tokRow m d _).val
    rw [tokRow_entry m d L hpre j (x 0)]
    congr 2
    rw [Equiv.symm_apply_eq]
    apply Fin.ext
    rw [Shape.rowMajor_val_one]; rfl
  | 1 =>
    apply Fin.ext
    exact Shape.Gathers.idx_of_ne gathers_S100000x128_S128x128 _ x 1 (by decide)

/-! ## The rows a scatter names -/

abbrev namedRow (j : Fin 8) : Fin (S128x128.size gathers_S32768x128_S128x128.axis') → Fin (S32768x128.size gathers_S32768x128_S128x128.axis) :=
  SparseCore.rows ((rowK j).view.read (Elt F) (poss (F := F) d L)) (rfl : S128.numel = S128x128.size gathers_S32768x128_S128x128.axis') (poss_lt d L j)

theorem namedRow_val (j : Fin 8) (k : Fin (S128x128.size gathers_S32768x128_S128x128.axis')) :
    (namedRow (F := F) d L j k).val = Lit.pos (entry L j k.val) := by
  have h : (namedRow (F := F) d L j k).val = ((rowK j).view.read (Elt F) (poss (F := F) d L) (ix1 (n := 128) k)).toNat := by
    show ((rowK j).view.read (Elt F) (poss (F := F) d L) (S128.rowMajor.symm _)).toNat = _
    congr 2
    rw [Equiv.symm_apply_eq]
    apply Fin.ext
    rw [Shape.rowMajor_val_one]; rfl
  exact h.trans (poss_read d L j k)

theorem mem_outRow (y : Idx (outK.view.loc (thr d L))) (r : Fin (S32768x128.size gathers_S32768x128_S128x128.axis)) :
    y ∈ (outK.view.slice (S32768x128.rowRect gathers_S32768x128_S128x128.axis r)).set ↔ ((y : S32768x128.Idx) 0).val = r.val := by
  constructor
  · intro h
    obtain ⟨z, -, rfl⟩ := Finset.mem_map.mp h
    show ((outK.view.emb ((S32768x128.rowRect 0 r).emb z)) 0).val = r.val
    rw [emb_outK]
    exact congrArg Fin.val (Shape.rowRect_emb_axis (s := S32768x128) 0 r z)
  · intro h
    obtain rfl : r = (y : S32768x128.Idx) 0 := Fin.ext h.symm
    refine Finset.mem_map.mpr ⟨S32768x128.rowProj 0 y, Finset.mem_univ _, ?_⟩
    show outK.view.emb ((S32768x128.rowRect 0 (y 0)).emb (S32768x128.rowProj 0 y)) = y
    rw [emb_outK]
    exact Shape.rowRect_emb_rowProj (s := S32768x128) 0 y

theorem namedRows_chunk (j : Fin 8) :
    SparseCore.namedRows (thr d L) outK.view gathers_S32768x128_S128x128.axis (namedRow (F := F) d L j) = chunkRows (wid L) j := by
  have hw := wid_lt L
  refine (SparseCore.namedRows_eq _ _ _ _).trans (Finset.ext fun y => ⟨fun h => ?_, fun h => ?_⟩)
  · obtain ⟨k, -, hk⟩ := Finset.mem_biUnion.mp h
    have e := ((mem_outRow d L y _).mp hk).trans (namedRow_val d L j k)
    refine Finset.mem_filter.mpr ⟨Finset.mem_univ _, ?_⟩
    have hk' : k.val < 128 := k.isLt
    have e' : Lit.src ((y : S32768x128.Idx) 0).val = entry L j k.val := by rw [e, Lit.src_pos]
    show Lit.src ((y : S32768x128.Idx) 0).val / 128 = 8 * wid L + j.val
    rw [e']; unfold entry; omega
  · have h' : Lit.src ((y : S32768x128.Idx) 0).val / 128 = 8 * wid L + j.val := (Finset.mem_filter.mp h).2
    have hk : Lit.src ((y : S32768x128.Idx) 0).val % 128 < 128 := Nat.mod_lt _ (by decide)
    refine Finset.mem_biUnion.mpr ⟨⟨Lit.src ((y : S32768x128.Idx) 0).val % 128, hk⟩, Finset.mem_univ _, (mem_outRow d L y _).mpr ?_⟩
    rw [namedRow_val]
    have e : entry L j (Lit.src ((y : S32768x128.Idx) 0).val % 128) = Lit.src ((y : S32768x128.Idx) 0).val := by
      unfold entry; omega
    exact (Lit.pos_src _).symm.trans (congrArg Lit.pos e.symm)

end Cert.Proof.Run

end
-- ==== Proof.Steps.lean ====
/-
  The four steps of the SparseCore body, each at a symbolic chunk and slot with the VALUES it moves: starting a chunk's gather
  (`gather_step`), its wait (`gather_wait`: the slot holds the chunk's embedding rows), starting the scatter of a slot to the
  rows of the result the chunk's positions name (`scatter_step`), and its wait (`scatter_wait`: those rows hold what
  `gathered` says).
-/
module

public import proofs.«01_k».proof.Proof.Chunks

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Names
variable [FloatOps F] (L : grid0.Coords)

/-- Chunk `j`'s gather into slot `s`; -/
abbrev gat (j : Fin 8) (s : Fin 6) (sem : DmaSem sig) : Prog (TpuEff nD τ sig (Elt F) Λ₀ (Proc.scVector (cV L) (jV L))) PUnit :=
  SparseCore.enqueueIndirectGather rfl srcK (slotK s) gathers_S100000x128_S128x128 (listK j) rfl sem (View.wordExact_bits rfl) rfl (Or.inl rfl)
/-- its wait; -/
abbrev gwt (s : Fin 6) (sem : DmaSem sig) : Prog (TpuEff nD τ sig (Elt F) Λ₀ (Proc.scVector (cV L) (jV L))) PUnit :=
  SparseCore.waitIndirectGather sem srcK (slotK s) (View.wordExact_bits rfl) ((View.wordExact_bits rfl).reshape _ _)
/-- the scatter of slot `s` to the rows of chunk `j`; -/
abbrev sca (j : Fin 8) (s : Fin 6) (sem : DmaSem sig) : Prog (TpuEff nD τ sig (Elt F) Λ₀ (Proc.scVector (cV L) (jV L))) PUnit :=
  SparseCore.enqueueIndirectScatter rfl (slotK s) outK gathers_S32768x128_S128x128 (rowK j) rfl sem rfl (Or.inl rfl)
/-- its wait. -/
abbrev swt (s : Fin 6) (sem : DmaSem sig) : Prog (TpuEff nD τ sig (Elt F) Λ₀ (Proc.scVector (cV L) (jV L))) PUnit :=
  SparseCore.waitIndirectScatter sem (slotK s) outK ((View.wordExact_bits rfl).reshape _ _) (View.wordExact_bits rfl)

theorem gwt_bind (s : Fin 6) (sem : DmaSem sig) (k : PUnit.{1} → Prog (TpuEff nD τ sig (Elt F) Λ₀ (Proc.scVector (cV L) (jV L))) PUnit.{1}) :
    gwt L s sem >>= k = .op (.waitDma2 sem srcK (slotK s) (View.wordExact_bits rfl) ((View.wordExact_bits rfl).reshape _ _)) k := rfl
theorem swt_bind (s : Fin 6) (sem : DmaSem sig) (k : PUnit.{1} → Prog (TpuEff nD τ sig (Elt F) Λ₀ (Proc.scVector (cV L) (jV L))) PUnit.{1}) :
    swt L s sem >>= k = .op (.waitDma2 sem outK (slotK s) (View.wordExact_bits rfl) ((View.wordExact_bits rfl).reshape _ _)) k := rfl

end Names

variable (m : (ℓ : Loc nD τ sig) → Buf (Elt F) ℓ) (d : Dev nD) (L : grid0.Coords)
variable [FloatOps F]

theorem gat_credit (s : Fin 6) : ∀ h : S100000x128.Gathers 0 S128x128,
    ∑ j, ((slotK s).slice (S128x128.rowRect h.axis' j) (S128x128.stride_rowRect h.axis' j)).view.dmaCredit = (slotK s).view.dmaCredit := by
  revert s; decide

/-- Chunk `j`'s gather into slot `s` starts. -/
theorem gather_step (hpre : PreOK m) (j : Fin 8) (s : Fin 6) (sem : DmaSem sig)
    {Q : PUnit.{1} → sProp 𝕄} {k : PUnit.{1} → Prog (TpuEff nD τ sig (Elt F) Λ₀ (Proc.scVector (cV L) (jV L))) PUnit.{1}} :
    iprop(EmbP m d L j ∗ LstP m d L j ∗ SlotP d L s ∗ SemP d L sem)
      ⊢ iprop((GatP m d L j s sem -∗ wp frame (wpE (defs₀ (F := F)) 𝒱₀ (thr d L) none) Set.univ (k ⟨⟩) Q)
        -∗ wp frame (wpE (defs₀ (F := F)) 𝒱₀ (thr d L) none) Set.univ
            (gat L j s sem >>= k) Q) := by
  unfold EmbP LstP SlotP SemP GatP gat
  iintro ⟨He, Hl, ⟨%f, Hs⟩, Hm⟩ Hk
  iapply (SparseCore.wp_indirectGatherLocal countersEmb 𝒱₀ (thr d L) none (hg := gathers_S100000x128_S128x128) (default : HIx 1)
      (slotK s).view.dmaCredit (gat_credit s _) (by decide) (toks_lt m d L hpre j)) $$ [He Hl Hs Hm]
  · isplitl [He]; · iexact He
    isplitl [Hs]; · iexact Hs
    isplitl [Hl]; · iexact Hl
    iexact Hm
  iintro Hfl
  iapply Hk
  iapply (flight_mono ?_) $$ Hfl
  iintro ⟨Hs, He, Hl⟩
  isplitl [Hs]
  · unfold FullP
    iexists _
    isplitr
    swap; · iexact Hs
    ipureintro
    intro x
    rw [View.read_write_univ]
    exact gather_value m d L hpre j x _ _
  isplitl [He]; · unfold EmbP; iexact He
  unfold LstP
  iexact Hl

/-- Its wait: the slot holds the chunk's rows. -/
theorem gather_wait (O : CellTallies nD τ sig (HIx 1)) (W : Waits sig (HIx 1)) (j : Fin 8) (s : Fin 6) (sem : DmaSem sig)
    {Q : PUnit.{1} → sProp 𝕄} {k : PUnit.{1} → Prog (TpuEff nD τ sig (Elt F) Λ₀ (Proc.scVector (cV L) (jV L))) PUnit.{1}} :
    iprop(Transfers.MayWaits (thr d L) (default : HIx 1) O ∗ GatP m d L j s sem ∗ OwP d L O W)
      ⊢ iprop((iprop(FullP m d L j s ∗ EmbP m d L j ∗ LstP m d L j ∗ SemP d L sem ∗ OwP d L O W)
          -∗ wp frame (wpE (defs₀ (F := F)) 𝒱₀ (thr d L) none) Set.univ (k ⟨⟩) Q)
        -∗ wp frame (wpE (defs₀ (F := F)) 𝒱₀ (thr d L) none) Set.univ
            (gwt L s sem >>= k) Q) := by
  unfold GatP OwP SemP
  iintro ⟨Hmw, Hfl, ⟨%W', %hW', HO⟩⟩ Hk
  rw [gwt_bind]
  iapply (Transfers.wp_waitLocalO countersEmb 𝒱₀ (thr d L) none (default : HIx 1) (rfl : (slotK s).view.dmaCredit = _)) $$ [Hfl HO Hmw]
  · isplitl [Hfl]; · iexact Hfl
    isplitl [HO]; · iexact HO
    iapply (Transfers.MayWaits.elim (SemLoc.dma sem)) $$ Hmw
  iintro ⟨⟨Hs, He, Hl⟩, Hm, HO⟩
  iapply Hk
  isplitl [Hs]; · iexact Hs
  isplitl [He]; · iexact He
  isplitl [Hl]; · iexact Hl
  isplitl [Hm]; · iexact Hm
  iexists _; isplitr
  swap; · iexact HO
  ipureintro; intro p hp
  rcases Finset.mem_insert.mp hp with hp | hp; · exact .inr (hp ▸ rfl)
  exact hW' p hp

omit [FloatOps F] in
/-- An index moved along an equality of shapes keeps its coordinates. -/
theorem idxEquiv_symm_val {s s' : Shape} (h : s = s') (z : s'.Idx) (b : Fin s.rank) (b' : Fin s'.rank) (hb : b.val = b'.val) :
    ((Shape.idxEquiv h).symm z b).val = (z b').val := by
  subst h
  obtain rfl : b = b' := Fin.ext hb
  rfl

/-- What a scattered slot leaves in the rows it names: what `gathered` says. -/
theorem scatter_value (j : Fin 8) (s : Fin 6) (f : Buf (Elt F) ((slotK s).view.loc (thr d L)))
    (hf : ∀ x : S128x128.Idx, (slotK s).view.read (Elt F) f x = m (eLoc d) (ix2 (tokRow m d (entry L j (x 0).val)) (x 1)))
    (y : Idx (outK.view.loc (thr d L)))
    (hy : y ∈ SparseCore.namedRows (thr d L) outK.view gathers_S32768x128_S128x128.axis (namedRow (F := F) d L j)) :
    SparseCore.scatterBuf (thr d L) outK.view gathers_S32768x128_S128x128.axis (namedRow (F := F) d L j)
        (SparseCore.scatterRowPayload (thr d L) (slotK s) gathers_S32768x128_S128x128 f) (m (oLoc d)) y = gathered m d y := by
  obtain ⟨k, -, hk⟩ := Finset.mem_biUnion.mp hy
  rw [SparseCore.scatterBuf_of_mem (thr d L) outK.view gathers_S32768x128_S128x128.axis _ (SparseCore.rows_injective (poss_inj d L j)) _ _ hk]
  obtain ⟨z, -, rfl⟩ := Finset.mem_map.mp hk
  refine (View.write_emb_of_mem (v := outK.view.slice _) _ _ (Finset.mem_univ z)).trans ?_
  refine (hf ((S128x128.rowRect gathers_S32768x128_S128x128.axis' k).emb ((Shape.idxEquiv gathers_S32768x128_S128x128.rowShape_eq).symm z))).trans ?_
  show _ = m (eLoc d) (ix2 (tokRow m d (Lit.src ((outK.view.emb ((S32768x128.rowRect 0 (namedRow (F := F) d L j k)).emb z)) 0).val))
    ((outK.view.emb ((S32768x128.rowRect 0 (namedRow (F := F) d L j k)).emb z)) 1))
  rw [emb_outK]
  have e0 : (((S32768x128.rowRect 0 (namedRow (F := F) d L j k)).emb z) 0 : Fin 32768).val = Lit.pos (entry L j k.val) :=
    (congrArg Fin.val (Shape.rowRect_emb_axis (s := S32768x128) 0 (namedRow (F := F) d L j k) z)).trans (namedRow_val d L j k)
  have e1 : ((S128x128.rowRect gathers_S32768x128_S128x128.axis' k).emb ((Shape.idxEquiv gathers_S32768x128_S128x128.rowShape_eq).symm z) 0 : Fin 128).val = k.val :=
    congrArg Fin.val (Shape.rowRect_emb_axis (s := S128x128) 0 k _)
  rw [e0, e1, Lit.src_pos]
  refine congrArg (m (eLoc d)) (congrArg (ix2 _) (Fin.ext ?_))
  refine (Shape.rowRect_emb_of_ne (s := S128x128) 0 k _ (b := 1) (by decide)).trans ?_
  refine Eq.trans ?_ (Shape.rowRect_emb_of_ne (s := S32768x128) 0 (namedRow (F := F) d L j k) z (b := 1) (by decide)).symm
  exact idxEquiv_symm_val gathers_S32768x128_S128x128.rowShape_eq z (1 : Fin 2) (1 : Fin 2) rfl

/-- The scatter of slot `s`, holding chunk `j`'s rows, starts. -/
theorem scatter_step (j : Fin 8) (s : Fin 6) (sem : DmaSem sig)
    {Q : PUnit.{1} → sProp 𝕄} {k : PUnit.{1} → Prog (TpuEff nD τ sig (Elt F) Λ₀ (Proc.scVector (cV L) (jV L))) PUnit.{1}} :
    iprop(FullP m d L j s ∗ RowP d L j ∗ OutP d L j (m (oLoc d)) ∗ SemP d L sem)
      ⊢ iprop((ScaP m d L j s sem -∗ wp frame (wpE (defs₀ (F := F)) 𝒱₀ (thr d L) none) Set.univ (k ⟨⟩) Q)
        -∗ wp frame (wpE (defs₀ (F := F)) 𝒱₀ (thr d L) none) Set.univ
            (sca L j s sem >>= k) Q) := by
  unfold FullP RowP OutP SemP ScaP sca
  iintro ⟨⟨%f, %hf, Hs⟩, Hr, Ho, Hm⟩ Hk
  iapply (SparseCore.wp_indirectScatterLocal countersEmb 𝒱₀ (thr d L) none (hg := gathers_S32768x128_S128x128) (default : HIx 1)
      (slotK s).view.dmaCredit (by decide) (poss_lt d L j) (SparseCore.rows_injective (poss_inj d L j))
      (SparseCore.sum_scatterCredit_eq_srcCredit (thr d L) (slotK s) outK gathers_S32768x128_S128x128 rfl _ (fun _ => rfl) (fun _ => rfl))) $$ [Hs Hr Ho Hm]
  · isplitl [Hs]; · iexact Hs
    isplitl [Ho]; · iapply (Entails.of_eq (show (oLoc d ↦[chunkRows (wid L) j]{fullShare} m (oLoc d) : sProp 𝕄) = _ by rw [← namedRows_chunk (F := F) d L j])); iexact Ho
    isplitl [Hr]; · iexact Hr
    iexact Hm
  iintro Hfl
  iapply Hk
  iapply (flight_mono ?_) $$ Hfl
  iintro ⟨Ho, Hs, Hr⟩
  isplitl [Ho]
  · unfold OutP
    rw [← namedRows_chunk (F := F) d L j]
    iapply (Entails.of_eq (pointsTo_congr fun y hy => scatter_value m d L j s f hf y hy)) $$ Ho
  isplitl [Hs]; · unfold SlotP; iexists _; iexact Hs
  unfold RowP
  iexact Hr

/-- Its wait: the chunk's rows of the result are written, the slot is free. -/
theorem scatter_wait (O : CellTallies nD τ sig (HIx 1)) (W : Waits sig (HIx 1)) (j : Fin 8) (s : Fin 6) (sem : DmaSem sig)
    {Q : PUnit.{1} → sProp 𝕄} {k : PUnit.{1} → Prog (TpuEff nD τ sig (Elt F) Λ₀ (Proc.scVector (cV L) (jV L))) PUnit.{1}} :
    iprop(Transfers.MayWaits (thr d L) (default : HIx 1) O ∗ ScaP m d L j s sem ∗ OwP d L O W)
      ⊢ iprop((iprop(OutP d L j (gathered m d) ∗ SlotP d L s ∗ RowP d L j ∗ SemP d L sem ∗ OwP d L O W)
          -∗ wp frame (wpE (defs₀ (F := F)) 𝒱₀ (thr d L) none) Set.univ (k ⟨⟩) Q)
        -∗ wp frame (wpE (defs₀ (F := F)) 𝒱₀ (thr d L) none) Set.univ
            (swt L s sem >>= k) Q) := by
  unfold ScaP OwP SemP
  iintro ⟨Hmw, Hfl, ⟨%W', %hW', HO⟩⟩ Hk
  rw [swt_bind]
  iapply (Transfers.wp_waitLocalO countersEmb 𝒱₀ (thr d L) none (default : HIx 1) (rfl : (slotK s).view.dmaCredit = _)) $$ [Hfl HO Hmw]
  · isplitl [Hfl]; · iexact Hfl
    isplitl [HO]; · iexact HO
    iapply (Transfers.MayWaits.elim (SemLoc.dma sem)) $$ Hmw
  iintro ⟨⟨Hs, He, Hl⟩, Hm, HO⟩
  iapply Hk
  isplitl [Hs]; · iexact Hs
  isplitl [He]; · iexact He
  isplitl [Hl]; · iexact Hl
  isplitl [Hm]; · iexact Hm
  iexists _; isplitr
  swap; · iexact HO
  ipureintro; intro p hp
  rcases Finset.mem_insert.mp hp with hp | hp; · exact .inr (hp ▸ rfl)
  exact hW' p hp

end Cert.Proof.Run

end
-- ==== Proof.Tile.lean ====
/-
  The SparseCore body on one tile, at a symbolic (SparseCore, tile) pair: from the tile's shares of the tokens, of the
  positions and of the embedding table, and its rows of the result, it leaves those rows as `gathered` says (`tile_body`).
-/
module

public import proofs.«01_k».proof.Proof.Steps

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S16x2048 EltTy.i32)
local notation "pV" => (Memref.whole Cert.KernelIdeal.main_c_scv : Memref Cert.KernelIdeal.sig Kind.scVector Space.hbm Cert.KernelIdeal.S256x128 EltTy.i32)
local notation "eV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S8x128 EltTy.i32)
local notation "bV" => (Memref.whole Cert.KernelIdeal.cc0_scratch2 : Memref Cert.KernelIdeal.sig Kind.scVector Space.vmem Cert.KernelIdeal.S6x128x128 EltTy.f32)

/-! ## The body's steps named -/

section Steps
variable [FloatOps F]

/-- The gathers and scatters, in the body's order. -/
def moves (L : grid0.Coords) : Prog (TpuEff nD τ sig (Elt F) Λ₀ (Proc.scVector (cV L) (jV L))) PUnit := do
  gat L 0 0 cc0_scratch5.sem
  gat L 1 1 cc0_scratch6.sem
  gat L 2 2 cc0_scratch7.sem
  gat L 3 3 cc0_scratch8.sem
  gat L 4 4 cc0_scratch9.sem
  gwt L 0 cc0_scratch5.sem
  sca L 0 0 cc0_scratch11.sem
  gat L 5 5 cc0_scratch10.sem
  gwt L 1 cc0_scratch6.sem
  sca L 1 1 cc0_scratch12.sem
  swt L 0 cc0_scratch11.sem
  gat L 6 0 cc0_scratch5.sem
  gwt L 2 cc0_scratch7.sem
  sca L 2 2 cc0_scratch13.sem
  swt L 1 cc0_scratch12.sem
  gat L 7 1 cc0_scratch6.sem
  gwt L 3 cc0_scratch8.sem
  sca L 3 3 cc0_scratch14.sem
  gwt L 4 cc0_scratch9.sem
  sca L 4 4 cc0_scratch15.sem
  gwt L 5 cc0_scratch10.sem
  sca L 5 5 cc0_scratch16.sem
  gwt L 0 cc0_scratch5.sem
  sca L 6 0 cc0_scratch11.sem
  gwt L 1 cc0_scratch6.sem
  sca L 7 1 cc0_scratch12.sem
  swt L 2 cc0_scratch13.sem
  swt L 3 cc0_scratch14.sem
  swt L 4 cc0_scratch15.sem
  swt L 5 cc0_scratch16.sem
  swt L 0 cc0_scratch11.sem
  swt L 1 cc0_scratch12.sem
  pure ⟨⟩

/-- The body: the two lists fetched, then the gathers and scatters. -/
def steps (L : grid0.Coords) : Prog (TpuEff nD τ sig (Elt F) Λ₀ (Proc.scVector (cV L) (jV L))) PUnit := do
  Prog.lift (.enqueueDma (tokK L) (.here lV) (.dma cc0_scratch3.sem) ((View.wordExact_bits rfl).reshape _ _) (Memref.isWhole_whole _).wordExact ⟨Or.inl rfl, trivial⟩)
  Prog.lift (.enqueueDma (posK L) (.here rV) (.dma cc0_scratch4.sem) (View.wordExact_bits rfl) (Memref.isWhole_whole _).wordExact ⟨Or.inl rfl, trivial⟩)
  Prog.lift (.waitDma2 cc0_scratch3.sem (tokK L) lV ((View.wordExact_bits rfl).reshape _ _) (Memref.isWhole_whole _).wordExact)
  Prog.lift (.waitDma2 cc0_scratch4.sem (posK L) rV (View.wordExact_bits rfl) (Memref.isWhole_whole _).wordExact)
  moves L

abbrev bodyAt (L : grid0.Coords) : Prog (TpuEff nD τ sig (Elt F) Λ₀ (Proc.scVector (cV L) (jV L))) PUnit :=
  cc0__sc_gather_body L tV (Memref.isWhole_whole _) pV (Memref.isWhole_whole _) eV (Memref.isWhole_whole _) oV (Memref.isWhole_whole _)
    lV (Memref.isWhole_whole _) rV (Memref.isWhole_whole _) bV (Memref.isWhole_whole _)
    cc0_scratch3 cc0_scratch4 cc0_scratch5 cc0_scratch6 cc0_scratch7 cc0_scratch8 cc0_scratch9 cc0_scratch10
    cc0_scratch11 cc0_scratch12 cc0_scratch13 cc0_scratch14 cc0_scratch15 cc0_scratch16

set_option maxRecDepth 65536 in
set_option maxHeartbeats 4000000 in
/-- The printed body is those steps. -/
theorem bodyAt_eq (L : grid0.Coords) : bodyAt (F := F) L = steps L := by
  unfold bodyAt
  rw [cc0__sc_gather_body_eq_skeleton]
  unfold cc0__sc_gather_body_skel
  rw [k0_part1_eq_skeleton, k0_part2_eq_skeleton, k0_part3_eq_skeleton, k0_part4_eq_skeleton, k0_part5_eq_skeleton, k0_part6_eq_skeleton, k0_part7_eq_skeleton]
  rfl

end Steps

/-! ## The moves' run -/

section Run
variable (m : (ℓ : Loc nD τ sig) → Buf (Elt F) ℓ) (d : Dev nD) (L : grid0.Coords) [FloatOps F]

theorem mayWaits (O : CellTallies nD τ sig (HIx 1)) (hO : ∀ g, O g none = 0) :
    levAts (K (F := F)).L (K (F := F)).lev ⊢ (Transfers.MayWaits (thr d L) (default : HIx 1) O : sProp 𝕄) :=
  (K (F := F)).mayWaits_none (thr := thr d L) hO

/-- The lists, the shares, the slots and the semaphores the moves work with, and the rows of the result at `f`. -/
def Held (f : Buf (Elt F) (oLoc d)) : sProp 𝕄 :=
  iprop((EmbP m d L 0 ∗ EmbP m d L 1 ∗ EmbP m d L 2 ∗ EmbP m d L 3 ∗ EmbP m d L 4 ∗ EmbP m d L 5 ∗ EmbP m d L 6 ∗ EmbP m d L 7)
    ∗ (LstP m d L 0 ∗ LstP m d L 1 ∗ LstP m d L 2 ∗ LstP m d L 3 ∗ LstP m d L 4 ∗ LstP m d L 5 ∗ LstP m d L 6 ∗ LstP m d L 7)
    ∗ (RowP (F := F) d L 0 ∗ RowP (F := F) d L 1 ∗ RowP (F := F) d L 2 ∗ RowP (F := F) d L 3 ∗ RowP (F := F) d L 4 ∗ RowP (F := F) d L 5 ∗ RowP (F := F) d L 6 ∗ RowP (F := F) d L 7)
    ∗ (SlotP (F := F) d L 0 ∗ SlotP (F := F) d L 1 ∗ SlotP (F := F) d L 2 ∗ SlotP (F := F) d L 3 ∗ SlotP (F := F) d L 4 ∗ SlotP (F := F) d L 5)
    ∗ (OutP d L 0 f ∗ OutP d L 1 f ∗ OutP d L 2 f ∗ OutP d L 3 f ∗ OutP d L 4 f ∗ OutP d L 5 f ∗ OutP d L 6 f ∗ OutP d L 7 f)
    ∗ (SemP (F := F) d L cc0_scratch5.sem ∗ SemP (F := F) d L cc0_scratch6.sem ∗ SemP (F := F) d L cc0_scratch7.sem ∗ SemP (F := F) d L cc0_scratch8.sem ∗ SemP (F := F) d L cc0_scratch9.sem ∗ SemP (F := F) d L cc0_scratch10.sem ∗ SemP (F := F) d L cc0_scratch11.sem ∗ SemP (F := F) d L cc0_scratch12.sem ∗ SemP (F := F) d L cc0_scratch13.sem ∗ SemP (F := F) d L cc0_scratch14.sem ∗ SemP (F := F) d L cc0_scratch15.sem ∗ SemP (F := F) d L cc0_scratch16.sem))

set_option maxHeartbeats 4000000 in
/-- The gathers and scatters: the tile's rows of the result end as `gathered` says, all else back. -/
theorem moves_wp (hpre : PreOK m) (O : CellTallies nD τ sig (HIx 1)) (W : Waits sig (HIx 1)) (hO : ∀ g, O g none = 0) (Q : PUnit.{1} → sProp 𝕄) :
    iprop(levAts (K (F := F)).L (K (F := F)).lev ∗ Held m d L (m (oLoc d)) ∗ OwP d L O W)
      ⊢ iprop((iprop(Held m d L (gathered m d) ∗ OwP d L O W) -∗ Q ⟨⟩)
          -∗ wp frame (wpE (defs₀ (F := F)) 𝒱₀ (thr d L) none) Set.univ (moves L) Q) := by
  unfold Held moves
  iintro ⟨#Hlv, ⟨⟨He0, He1, He2, He3, He4, He5, He6, He7⟩, ⟨Hl0, Hl1, Hl2, Hl3, Hl4, Hl5, Hl6, Hl7⟩, ⟨Hr0, Hr1, Hr2, Hr3, Hr4, Hr5, Hr6, Hr7⟩, ⟨Hs0, Hs1, Hs2, Hs3, Hs4, Hs5⟩, ⟨Ho0, Ho1, Ho2, Ho3, Ho4, Ho5, Ho6, Ho7⟩, ⟨Hm0, Hm1, Hm2, Hm3, Hm4, Hm5, Hm6, Hm7, Hm8, Hm9, Hm10, Hm11⟩⟩, HO⟩ Hk
  iapply (gather_step m d L hpre 0 0 cc0_scratch5.sem) $$ [He0 Hl0 Hs0 Hm0]
  · isplitl [He0]; · iexact He0
    isplitl [Hl0]; · iexact Hl0
    isplitl [Hs0]; · iexact Hs0
    iexact Hm0
  iintro Hg0
  iapply (gather_step m d L hpre 1 1 cc0_scratch6.sem) $$ [He1 Hl1 Hs1 Hm1]
  · isplitl [He1]; · iexact He1
    isplitl [Hl1]; · iexact Hl1
    isplitl [Hs1]; · iexact Hs1
    iexact Hm1
  iintro Hg1
  iapply (gather_step m d L hpre 2 2 cc0_scratch7.sem) $$ [He2 Hl2 Hs2 Hm2]
  · isplitl [He2]; · iexact He2
    isplitl [Hl2]; · iexact Hl2
    isplitl [Hs2]; · iexact Hs2
    iexact Hm2
  iintro Hg2
  iapply (gather_step m d L hpre 3 3 cc0_scratch8.sem) $$ [He3 Hl3 Hs3 Hm3]
  · isplitl [He3]; · iexact He3
    isplitl [Hl3]; · iexact Hl3
    isplitl [Hs3]; · iexact Hs3
    iexact Hm3
  iintro Hg3
  iapply (gather_step m d L hpre 4 4 cc0_scratch9.sem) $$ [He4 Hl4 Hs4 Hm4]
  · isplitl [He4]; · iexact He4
    isplitl [Hl4]; · iexact Hl4
    isplitl [Hs4]; · iexact Hs4
    iexact Hm4
  iintro Hg4
  iapply (gather_wait m d L O W 0 0 cc0_scratch5.sem) $$ [Hg0 HO]
  · isplitr; · iapply (mayWaits d L O hO); iexact Hlv
    isplitl [Hg0]; · iexact Hg0
    iexact HO
  iintro ⟨Hf0, He0, Hl0, Hm0, HO⟩
  iapply (scatter_step m d L 0 0 cc0_scratch11.sem) $$ [Hf0 Hr0 Ho0 Hm6]
  · isplitl [Hf0]; · iexact Hf0
    isplitl [Hr0]; · iexact Hr0
    isplitl [Ho0]; · iexact Ho0
    iexact Hm6
  iintro Hg0
  iapply (gather_step m d L hpre 5 5 cc0_scratch10.sem) $$ [He5 Hl5 Hs5 Hm5]
  · isplitl [He5]; · iexact He5
    isplitl [Hl5]; · iexact Hl5
    isplitl [Hs5]; · iexact Hs5
    iexact Hm5
  iintro Hg5
  iapply (gather_wait m d L O W 1 1 cc0_scratch6.sem) $$ [Hg1 HO]
  · isplitr; · iapply (mayWaits d L O hO); iexact Hlv
    isplitl [Hg1]; · iexact Hg1
    iexact HO
  iintro ⟨Hf1, He1, Hl1, Hm1, HO⟩
  iapply (scatter_step m d L 1 1 cc0_scratch12.sem) $$ [Hf1 Hr1 Ho1 Hm7]
  · isplitl [Hf1]; · iexact Hf1
    isplitl [Hr1]; · iexact Hr1
    isplitl [Ho1]; · iexact Ho1
    iexact Hm7
  iintro Hg1
  iapply (scatter_wait m d L O W 0 0 cc0_scratch11.sem) $$ [Hg0 HO]
  · isplitr; · iapply (mayWaits d L O hO); iexact Hlv
    isplitl [Hg0]; · iexact Hg0
    iexact HO
  iintro ⟨Ho0, Hs0, Hr0, Hm6, HO⟩
  iapply (gather_step m d L hpre 6 0 cc0_scratch5.sem) $$ [He6 Hl6 Hs0 Hm0]
  · isplitl [He6]; · iexact He6
    isplitl [Hl6]; · iexact Hl6
    isplitl [Hs0]; · iexact Hs0
    iexact Hm0
  iintro Hg6
  iapply (gather_wait m d L O W 2 2 cc0_scratch7.sem) $$ [Hg2 HO]
  · isplitr; · iapply (mayWaits d L O hO); iexact Hlv
    isplitl [Hg2]; · iexact Hg2
    iexact HO
  iintro ⟨Hf2, He2, Hl2, Hm2, HO⟩
  iapply (scatter_step m d L 2 2 cc0_scratch13.sem) $$ [Hf2 Hr2 Ho2 Hm8]
  · isplitl [Hf2]; · iexact Hf2
    isplitl [Hr2]; · iexact Hr2
    isplitl [Ho2]; · iexact Ho2
    iexact Hm8
  iintro Hg2
  iapply (scatter_wait m d L O W 1 1 cc0_scratch12.sem) $$ [Hg1 HO]
  · isplitr; · iapply (mayWaits d L O hO); iexact Hlv
    isplitl [Hg1]; · iexact Hg1
    iexact HO
  iintro ⟨Ho1, Hs1, Hr1, Hm7, HO⟩
  iapply (gather_step m d L hpre 7 1 cc0_scratch6.sem) $$ [He7 Hl7 Hs1 Hm1]
  · isplitl [He7]; · iexact He7
    isplitl [Hl7]; · iexact Hl7
    isplitl [Hs1]; · iexact Hs1
    iexact Hm1
  iintro Hg7
  iapply (gather_wait m d L O W 3 3 cc0_scratch8.sem) $$ [Hg3 HO]
  · isplitr; · iapply (mayWaits d L O hO); iexact Hlv
    isplitl [Hg3]; · iexact Hg3
    iexact HO
  iintro ⟨Hf3, He3, Hl3, Hm3, HO⟩
  iapply (scatter_step m d L 3 3 cc0_scratch14.sem) $$ [Hf3 Hr3 Ho3 Hm9]
  · isplitl [Hf3]; · iexact Hf3
    isplitl [Hr3]; · iexact Hr3
    isplitl [Ho3]; · iexact Ho3
    iexact Hm9
  iintro Hg3
  iapply (gather_wait m d L O W 4 4 cc0_scratch9.sem) $$ [Hg4 HO]
  · isplitr; · iapply (mayWaits d L O hO); iexact Hlv
    isplitl [Hg4]; · iexact Hg4
    iexact HO
  iintro ⟨Hf4, He4, Hl4, Hm4, HO⟩
  iapply (scatter_step m d L 4 4 cc0_scratch15.sem) $$ [Hf4 Hr4 Ho4 Hm10]
  · isplitl [Hf4]; · iexact Hf4
    isplitl [Hr4]; · iexact Hr4
    isplitl [Ho4]; · iexact Ho4
    iexact Hm10
  iintro Hg4
  iapply (gather_wait m d L O W 5 5 cc0_scratch10.sem) $$ [Hg5 HO]
  · isplitr; · iapply (mayWaits d L O hO); iexact Hlv
    isplitl [Hg5]; · iexact Hg5
    iexact HO
  iintro ⟨Hf5, He5, Hl5, Hm5, HO⟩
  iapply (scatter_step m d L 5 5 cc0_scratch16.sem) $$ [Hf5 Hr5 Ho5 Hm11]
  · isplitl [Hf5]; · iexact Hf5
    isplitl [Hr5]; · iexact Hr5
    isplitl [Ho5]; · iexact Ho5
    iexact Hm11
  iintro Hg5
  iapply (gather_wait m d L O W 6 0 cc0_scratch5.sem) $$ [Hg6 HO]
  · isplitr; · iapply (mayWaits d L O hO); iexact Hlv
    isplitl [Hg6]; · iexact Hg6
    iexact HO
  iintro ⟨Hf6, He6, Hl6, Hm0, HO⟩
  iapply (scatter_step m d L 6 0 cc0_scratch11.sem) $$ [Hf6 Hr6 Ho6 Hm6]
  · isplitl [Hf6]; · iexact Hf6
    isplitl [Hr6]; · iexact Hr6
    isplitl [Ho6]; · iexact Ho6
    iexact Hm6
  iintro Hg6
  iapply (gather_wait m d L O W 7 1 cc0_scratch6.sem) $$ [Hg7 HO]
  · isplitr; · iapply (mayWaits d L O hO); iexact Hlv
    isplitl [Hg7]; · iexact Hg7
    iexact HO
  iintro ⟨Hf7, He7, Hl7, Hm1, HO⟩
  iapply (scatter_step m d L 7 1 cc0_scratch12.sem) $$ [Hf7 Hr7 Ho7 Hm7]
  · isplitl [Hf7]; · iexact Hf7
    isplitl [Hr7]; · iexact Hr7
    isplitl [Ho7]; · iexact Ho7
    iexact Hm7
  iintro Hg7
  iapply (scatter_wait m d L O W 2 2 cc0_scratch13.sem) $$ [Hg2 HO]
  · isplitr; · iapply (mayWaits d L O hO); iexact Hlv
    isplitl [Hg2]; · iexact Hg2
    iexact HO
  iintro ⟨Ho2, Hs2, Hr2, Hm8, HO⟩
  iapply (scatter_wait m d L O W 3 3 cc0_scratch14.sem) $$ [Hg3 HO]
  · isplitr; · iapply (mayWaits d L O hO); iexact Hlv
    isplitl [Hg3]; · iexact Hg3
    iexact HO
  iintro ⟨Ho3, Hs3, Hr3, Hm9, HO⟩
  iapply (scatter_wait m d L O W 4 4 cc0_scratch15.sem) $$ [Hg4 HO]
  · isplitr; · iapply (mayWaits d L O hO); iexact Hlv
    isplitl [Hg4]; · iexact Hg4
    iexact HO
  iintro ⟨Ho4, Hs4, Hr4, Hm10, HO⟩
  iapply (scatter_wait m d L O W 5 5 cc0_scratch16.sem) $$ [Hg5 HO]
  · isplitr; · iapply (mayWaits d L O hO); iexact Hlv
    isplitl [Hg5]; · iexact Hg5
    iexact HO
  iintro ⟨Ho5, Hs5, Hr5, Hm11, HO⟩
  iapply (scatter_wait m d L O W 6 0 cc0_scratch11.sem) $$ [Hg6 HO]
  · isplitr; · iapply (mayWaits d L O hO); iexact Hlv
    isplitl [Hg6]; · iexact Hg6
    iexact HO
  iintro ⟨Ho6, Hs0, Hr6, Hm6, HO⟩
  iapply (scatter_wait m d L O W 7 1 cc0_scratch12.sem) $$ [Hg7 HO]
  · isplitr; · iapply (mayWaits d L O hO); iexact Hlv
    isplitl [Hg7]; · iexact Hg7
    iexact HO
  iintro ⟨Ho7, Hs1, Hr7, Hm7, HO⟩
  sl_step
  iapply Hk
  isplitr [HO]
  swap; · iexact HO
  isplitl [He0 He1 He2 He3 He4 He5 He6 He7]
  · isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  isplitl [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  iexact Hm11

end Run

end Cert.Proof.Run

end
-- ==== Proof.TileBody.lean ====
/-
  The SparseCore body on one tile, at a symbolic (SparseCore, tile) pair: from the tile's shares of the tokens, of the
  positions and of the embedding table, and its rows of the result, it leaves those rows as `gathered` says (`tile_body`).
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S16x2048 EltTy.i32)
local notation "pV" => (Memref.whole Cert.KernelIdeal.main_c_scv : Memref Cert.KernelIdeal.sig Kind.scVector Space.hbm Cert.KernelIdeal.S256x128 EltTy.i32)
local notation "eV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S32768x128 EltTy.f32)
local notation "lV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S8x128 EltTy.i32)
local notation "bV" => (Memref.whole Cert.KernelIdeal.cc0_scratch2 : Memref Cert.KernelIdeal.sig Kind.scVector Space.vmem Cert.KernelIdeal.S6x128x128 EltTy.f32)

/-! ## Eights and sixes of assertions -/

theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

section
variable (m : (ℓ : Loc nD τ sig) → Buf (Elt F) ℓ) (d : Dev nD) (L : grid0.Coords)

/-- The tile's number, as a number below 32. -/
abbrev widF : Fin 32 := ⟨wid L, wid_lt L⟩

/-! ## The pieces the moves work with are the arrays and the scratch whole -/

theorem srcK_set : srcK.view.set = Finset.univ := Finset.eq_univ_iff_forall.mpr fun y => Finset.mem_map.mpr ⟨y, Finset.mem_univ _, emb_srcK y⟩

theorem emb_pieces : (eLoc d ↦{eq (widF L)} m (eLoc d) : sProp 𝕄) = bigSep Finset.univ fun j : Fin 8 => EmbP m d L j := by
  refine (pointsTo_leaves Finset.univ (m (eLoc d)) 3 (eq (widF L))).trans (bigSep_congr fun j _ => ?_)
  unfold EmbP
  rw [srcK_set]

theorem list_pieces : ((thr d L).loc cc0_scratch0 ↦{fullShare} toks m d L : sProp 𝕄) = bigSep Finset.univ fun j : Fin 8 => LstP m d L j := by
  unfold LstP
  rw [← pointsTo_biUnion Finset.univ (ℓ := (thr d L).loc cc0_scratch0) listSet lists_disjoint, lists_cover]; try rfl

theorem row_pieces : ((thr d L).loc cc0_scratch1 ↦{fullShare} poss (F := F) d L : sProp 𝕄) = bigSep Finset.univ fun j : Fin 8 => RowP (F := F) d L j := by
  unfold RowP
  rw [← pointsTo_biUnion Finset.univ (ℓ := (thr d L).loc cc0_scratch1) rowSet rows_disjoint, rows_cover]; try rfl

theorem out_pieces (f : Buf (Elt F) (oLoc d)) : (oLoc d ↦[tileRows (wid L)]{fullShare} f : sProp 𝕄) = bigSep Finset.univ fun j : Fin 8 => OutP d L j f := by
  unfold OutP
  rw [← pointsTo_biUnion Finset.univ (ℓ := oLoc d) (chunkRows (wid L)) (chunks_disjoint (wid L)), chunks_cover]

theorem slot_split : (iprop(∃ f, (thr d L).loc cc0_scratch2 ↦{fullShare} f) : sProp 𝕄) ⊢ bigSep Finset.univ fun s : Fin 6 => SlotP (F := F) d L s := by
  iintro ⟨%f, H⟩
  have hm : (bigSep Finset.univ fun s : Fin 6 => ((thr d L).loc cc0_scratch2 ↦[slotSet s]{fullShare} f : sProp 𝕄)) ⊢ bigSep Finset.univ fun s : Fin 6 => SlotP (F := F) d L s :=
    by
    refine bigSep_mono fun s _ => ?_
    unfold SlotP
    show ((thr d L).loc cc0_scratch2 ↦[slotSet s]{fullShare} f : sProp 𝕄) ⊢ iprop(∃ f, (thr d L).loc cc0_scratch2 ↦[slotSet s]{fullShare} f)
    iintro H; iexists f; iexact H
  ihave H' := (Entails.of_eq (show ((thr d L).loc cc0_scratch2 ↦{fullShare} f : sProp 𝕄) = bigSep Finset.univ fun s : Fin 6 => (thr d L).loc cc0_scratch2 ↦[slotSet s]{fullShare} f by
    rw [← pointsTo_biUnion Finset.univ (ℓ := (thr d L).loc cc0_scratch2) slotSet slots_disjoint, slots_cover]; try rfl)) $$ H
  iapply hm; iexact H'

theorem slot_join [FloatOps F] : (bigSep Finset.univ fun s : Fin 6 => SlotP (F := F) d L s) ⊢ (iprop(∃ f, (thr d L).loc cc0_scratch2 ↦{fullShare} f) : sProp 𝕄) := by
  refine (bigSep_exists_pi Finset.univ (fun (s : Fin 6) (f : Buf (Elt F) ((thr d L).loc cc0_scratch2)) => ((thr d L).loc cc0_scratch2 ↦[slotSet s]{fullShare} f : sProp 𝕄))).trans ?_
  iintro ⟨%fs, H⟩
  ihave H' := (pointsTo_biUnion_join (ℓ := (thr d L).loc cc0_scratch2) (q := fullShare) (Val := Elt F) Finset.univ slotSet fs (fs 0) slots_disjoint) $$ H
  icases H' with ⟨%g, -, Hg⟩
  rw [slots_cover]
  iexists g; iexact Hg

/-! ## The tile's own semaphores and buffers -/

/-- The semaphores of the tile's body. -/
def semsUsed : Finset (SemLoc sig) :=
  {.dma cc0_scratch3.sem, .dma cc0_scratch4.sem, .dma cc0_scratch5.sem, .dma cc0_scratch6.sem, .dma cc0_scratch7.sem, .dma cc0_scratch8.sem, .dma cc0_scratch9.sem,
    .dma cc0_scratch10.sem, .dma cc0_scratch11.sem, .dma cc0_scratch12.sem, .dma cc0_scratch13.sem, .dma cc0_scratch14.sem, .dma cc0_scratch15.sem, .dma cc0_scratch16.sem}

theorem semsUsed_scoped : ∀ s ∈ semsUsed, s.isScoped .scVector = true := by decide

/-- A semaphore of the tile. -/
def ofTile : SemLoc sig ↪ GSem nD τ sig := ⟨fun s => (thr d L, s), fun _ _ h => (Prod.mk.inj h).2⟩

/-- The tile's other semaphores, at zero. -/
def restSems : sProp 𝕄 := bigSep (ownCells (thr d L) \ semsUsed.map (ofTile d L)) fun g => semVal g 0

theorem ownSems0_V :
    (ownSems0 (thr d L) : sProp 𝕄)
      = iprop((SemP (F := F) d L cc0_scratch3.sem ∗ SemP (F := F) d L cc0_scratch4.sem ∗ SemP (F := F) d L cc0_scratch5.sem ∗ SemP (F := F) d L cc0_scratch6.sem ∗ SemP (F := F) d L cc0_scratch7.sem ∗ SemP (F := F) d L cc0_scratch8.sem ∗ SemP (F := F) d L cc0_scratch9.sem ∗ SemP (F := F) d L cc0_scratch10.sem ∗ SemP (F := F) d L cc0_scratch11.sem ∗ SemP (F := F) d L cc0_scratch12.sem ∗ SemP (F := F) d L cc0_scratch13.sem ∗ SemP (F := F) d L cc0_scratch14.sem ∗ SemP (F := F) d L cc0_scratch15.sem ∗ SemP (F := F) d L cc0_scratch16.sem)
          ∗ restSems (F := F) d L) := by
  unfold SparseCore.Cfg.ownSems0 restSems
  have hsub : semsUsed.map (ofTile d L) ⊆ ownCells (thr d L) := fun g hg => by
    obtain ⟨s, hs, rfl⟩ := Finset.mem_map.mp hg
    exact mem_ownCells.mpr ⟨rfl, semsUsed_scoped s hs⟩
  rw [bigSep_sdiff_split hsub, bigSep_map]
  unfold semsUsed SemP
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

/-- The tile's other buffers, at some contents. -/
def restBufs : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ restBufs (F := F) d L) := by
  unfold SparseCore.Cfg.ownBufs restBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end

/-! ## The body -/

section Body
variable (m : (ℓ : Loc nD τ sig) → Buf (Elt F) ℓ) (d : Dev nD) (L : grid0.Coords)

/-- What tile number `w` is handed, and hands back: its shares of the tokens, the positions and the embedding table, and its
    rows of the result at `f`. -/
def tilePts (w : Fin 32) (f : Buf (Elt F) (oLoc d)) : sProp 𝕄 :=
  iprop((tLoc d ↦{eq w} tokC m d) ∗ (pLoc d ↦{eq w} posC) ∗ (eLoc d ↦{eq w} m (eLoc d)) ∗ oLoc d ↦[tileRows w.val]{fullShare} f)

variable [FloatOps F]

/-- The two lists fetched, then `p`. -/
def fetches (p : Prog (TpuEff nD τ sig (Elt F) Λ₀ (Proc.scVector (cV L) (jV L))) PUnit.{1}) : Prog (TpuEff nD τ sig (Elt F) Λ₀ (Proc.scVector (cV L) (jV L))) PUnit.{1} := do
  Prog.lift (.enqueueDma (tokK L) (.here lV) (.dma cc0_scratch3.sem) ((View.wordExact_bits rfl).reshape _ _) (Memref.isWhole_whole _).wordExact ⟨Or.inl rfl, trivial⟩)
  Prog.lift (.enqueueDma (posK L) (.here rV) (.dma cc0_scratch4.sem) (View.wordExact_bits rfl) (Memref.isWhole_whole _).wordExact ⟨Or.inl rfl, trivial⟩)
  Prog.lift (.waitDma2 cc0_scratch3.sem (tokK L) lV ((View.wordExact_bits rfl).reshape _ _) (Memref.isWhole_whole _).wordExact)
  Prog.lift (.waitDma2 cc0_scratch4.sem (posK L) rV (View.wordExact_bits rfl) (Memref.isWhole_whole _).wordExact)
  p

theorem steps_eq : steps (F := F) L = fetches L (moves L) := rfl

set_option maxHeartbeats 4000000 in
/-- The two fetches and their waits: the token scratch holds the tile's tokens, the position scratch its rows. -/
theorem fetches_wp (O : CellTallies nD τ sig (HIx 1)) (W : Waits sig (HIx 1)) (hO : ∀ g, O g none = 0)
    (p : Prog (TpuEff nD τ sig (Elt F) Λ₀ (Proc.scVector (cV L) (jV L))) PUnit.{1}) (Q : PUnit.{1} → sProp 𝕄) :
    iprop(levAts (K (F := F)).L (K (F := F)).lev ∗ (tLoc d ↦{eq (widF L)} tokC m d) ∗ (pLoc d ↦{eq (widF L)} posC)
        ∗ (∃ f, (thr d L).loc cc0_scratch0 ↦{fullShare} f) ∗ (∃ f, (thr d L).loc cc0_scratch1 ↦{fullShare} f)
        ∗ SemP (F := F) d L cc0_scratch3.sem ∗ SemP (F := F) d L cc0_scratch4.sem ∗ owes (thr d L) O W)
      ⊢ iprop((iprop((tLoc d ↦{eq (widF L)} tokC m d) ∗ (pLoc d ↦{eq (widF L)} posC)
            ∗ ((thr d L).loc cc0_scratch0 ↦{fullShare} toks m d L) ∗ ((thr d L).loc cc0_scratch1 ↦{fullShare} poss (F := F) d L)
            ∗ SemP (F := F) d L cc0_scratch3.sem ∗ SemP (F := F) d L cc0_scratch4.sem ∗ OwP d L O W)
          -∗ wp frame (wpE (defs₀ (F := F)) 𝒱₀ (thr d L) none) Set.univ p Q)
        -∗ wp frame (wpE (defs₀ (F := F)) 𝒱₀ (thr d L) none) Set.univ (fetches L p) Q) := by
  unfold fetches SemP OwP
  iintro ⟨#Hlv, Ht, Hp, ⟨%fs, Hs⟩, ⟨%fr, Hr⟩, Hm3, Hm4, HO⟩ Hk
  ihave Hmw := (mayWaits d L O hO) $$ Hlv
  ihave Ht' := (pointsTo_split_subset (q := eq (widF L)) (f := tokC m d) (S := Finset.univ) (Finset.subset_univ (tokK L).view.set)).1 $$ Ht
  icases Ht' with ⟨Ht, Htr⟩
  ihave Hp' := (pointsTo_split_subset (q := eq (widF L)) (f := posC) (S := Finset.univ) (Finset.subset_univ (posK L).view.set)).1 $$ Hp
  icases Hp' with ⟨Hp, Hpr⟩
  ihave Ht' := (Entails.of_eq (show (tLoc d ↦[(tokK L).view.set]{eq (widF L)} tokC m d : sProp 𝕄) = (tokK L).view.loc (thr d L) ↦[(tokK L).view.set]{eq (widF L)} tokC m d from rfl)) $$ Ht
  ihave Hp' := (Entails.of_eq (show (pLoc d ↦[(posK L).view.set]{eq (widF L)} posC : sProp 𝕄) = (posK L).view.loc (thr d L) ↦[(posK L).view.set]{eq (widF L)} posC from rfl)) $$ Hp
  ihave Hs' := (Entails.of_eq (show ((thr d L).loc cc0_scratch0 ↦{fullShare} fs : sProp 𝕄) = (lV).view.loc (thr d L) ↦{fullShare} fs from rfl)) $$ Hs
  ihave Hr' := (Entails.of_eq (show ((thr d L).loc cc0_scratch1 ↦{fullShare} fr : sProp 𝕄) = (rV).view.loc (thr d L) ↦{fullShare} fr from rfl)) $$ Hr
  sl_exec
  iapply Hk
  isplitl [Htr]; · iexact Htr
  isplitl [Hpr]; · iexact Hpr
  isplitl [Hs']
  · iapply (Entails.of_eq (show ((lV).view.loc (thr d L) ↦{fullShare} View.write (Elt F) (lV).view fs (fetches_wp.sl.dma0 m d L) Finset.univ : sProp 𝕄)
      = (thr d L).loc cc0_scratch0 ↦{fullShare} toks m d L by rw [View.write_whole_univ]; rfl)); iexact Hs'
  isplitl [Hr']
  · iapply (Entails.of_eq (show ((rV).view.loc (thr d L) ↦{fullShare} View.write (Elt F) (rV).view fr (fetches_wp.sl.dma0_1 (F := F) L) Finset.univ : sProp 𝕄)
      = (thr d L).loc cc0_scratch1 ↦{fullShare} poss (F := F) d L by rw [View.write_whole_univ]; rfl)); iexact Hr'
  isplitl [Hm3]; · iexact Hm3
  isplitl [Hm4]; · iexact Hm4
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-- What is held while the moves run, at the result's rows' contents `f`, put together from the pieces and back. -/
theorem held_of (f : Buf (Elt F) (oLoc d)) :
    iprop((eLoc d ↦{eq (widF L)} m (eLoc d)) ∗ ((thr d L).loc cc0_scratch0 ↦{fullShare} toks m d L) ∗ ((thr d L).loc cc0_scratch1 ↦{fullShare} poss (F := F) d L)
        ∗ (∃ g, (thr d L).loc cc0_scratch2 ↦{fullShare} g) ∗ (oLoc d ↦[tileRows (wid L)]{fullShare} f)
        ∗ (SemP (F := F) d L cc0_scratch5.sem ∗ SemP (F := F) d L cc0_scratch6.sem ∗ SemP (F := F) d L cc0_scratch7.sem ∗ SemP (F := F) d L cc0_scratch8.sem ∗ SemP (F := F) d L cc0_scratch9.sem ∗ SemP (F := F) d L cc0_scratch10.sem ∗ SemP (F := F) d L cc0_scratch11.sem ∗ SemP (F := F) d L cc0_scratch12.sem ∗ SemP (F := F) d L cc0_scratch13.sem ∗ SemP (F := F) d L cc0_scratch14.sem ∗ SemP (F := F) d L cc0_scratch15.sem ∗ SemP (F := F) d L cc0_scratch16.sem))
      ⊢ Held m d L f := by
  unfold Held
  rw [emb_pieces, list_pieces, row_pieces, out_pieces, ← sep8, ← sep8 (LstP m d L), ← sep8 (RowP (F := F) d L), ← sep6 (SlotP (F := F) d L), ← sep8 fun j => OutP d L j f]
  exact sep_mono .rfl (sep_mono .rfl (sep_mono .rfl (sep_mono (slot_split d L) .rfl)))

theorem of_held (f : Buf (Elt F) (oLoc d)) :
    Held m d L f
      ⊢ iprop((eLoc d ↦{eq (widF L)} m (eLoc d)) ∗ ((thr d L).loc cc0_scratch0 ↦{fullShare} toks m d L) ∗ ((thr d L).loc cc0_scratch1 ↦{fullShare} poss (F := F) d L)
        ∗ (∃ g, (thr d L).loc cc0_scratch2 ↦{fullShare} g) ∗ (oLoc d ↦[tileRows (wid L)]{fullShare} f)
        ∗ (SemP (F := F) d L cc0_scratch5.sem ∗ SemP (F := F) d L cc0_scratch6.sem ∗ SemP (F := F) d L cc0_scratch7.sem ∗ SemP (F := F) d L cc0_scratch8.sem ∗ SemP (F := F) d L cc0_scratch9.sem ∗ SemP (F := F) d L cc0_scratch10.sem ∗ SemP (F := F) d L cc0_scratch11.sem ∗ SemP (F := F) d L cc0_scratch12.sem ∗ SemP (F := F) d L cc0_scratch13.sem ∗ SemP (F := F) d L cc0_scratch14.sem ∗ SemP (F := F) d L cc0_scratch15.sem ∗ SemP (F := F) d L cc0_scratch16.sem)) := by
  unfold Held
  rw [emb_pieces, list_pieces, row_pieces, out_pieces, ← sep8, ← sep8 (LstP m d L), ← sep8 (RowP (F := F) d L), ← sep6 (SlotP (F := F) d L), ← sep8 fun j => OutP d L j f]
  exact sep_mono .rfl (sep_mono .rfl (sep_mono .rfl (sep_mono (slot_join d L) .rfl)))

set_option maxHeartbeats 4000000 in
/-- The task on tile `L` of device `d`: its rows of the result end as `gathered` says, all else back as it was. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tilePts m d (widF L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyAt L)
          fun _ => iprop(tilePts m d (widF L) (gathered m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [bodyAt_eq, steps_eq]
  rw [(K (F := F)).scopedBufs_V hF d (cV L) (jV L), SparseCore.Cfg.scopedSems0_V (Val := Elt F) d (cV L) (jV L), ownSems0_V, ownBufs_V]
  unfold tilePts
  iintro ⟨#Hlv, -, ⟨Ht, Hp, He, Ho⟩, ⟨Hs, Hr, Hslots, Hbufs⟩, ⟨⟨Hm3, Hm4, Hm⟩, Hsems⟩, HO⟩
  iapply (fetches_wp m d L O W hO _ _) $$ [Ht Hp Hs Hr Hm3 Hm4 HO]
  · isplitr; · iexact Hlv
    isplitl [Ht]; · iexact Ht
    isplitl [Hp]; · iexact Hp
    isplitl [Hs]; · iexact Hs
    isplitl [Hr]; · iexact Hr
    isplitl [Hm3]; · iexact Hm3
    isplitl [Hm4]; · iexact Hm4
    iexact HO
  iintro ⟨Ht, Hp, Hs, Hr, Hm3, Hm4, HO⟩
  ihave HH := (held_of m d L (m (oLoc d))) $$ [He Hs Hr Hslots Ho Hm]
  · isplitl [He]; · iexact He
    isplitl [Hs]; · iexact Hs
    isplitl [Hr]; · iexact Hr
    isplitl [Hslots]; · iexact Hslots
    isplitl [Ho]; · iexact Ho
    iexact Hm
  iapply (moves_wp m d L hpre O W hO _) $$ [HH HO]
  · isplitr; · iexact Hlv
    isplitl [HH]; · iexact HH
    iexact HO
  iintro ⟨HH, HO⟩
  ihave HH' := (of_held m d L (gathered m d)) $$ HH
  icases HH' with ⟨He, Hs, Hr, Hslots, Ho, Hm⟩
  isplitl [Ht Hp He Ho]
  · isplitl [Ht]; · iexact Ht
    isplitl [Hp]; · iexact Hp
    isplitl [He]; · iexact He
    iexact Ho
  isplitl [Hs Hr Hslots Hbufs]
  · isplitl [Hs]; · iexists _; iexact Hs
    isplitl [Hr]; · iexists _; iexact Hr
    isplitl [Hslots]; · iexact Hslots
    iexact Hbufs
  isplitl [Hm3 Hm4 Hm Hsems]
  · isplitr [Hsems]
    · isplitl [Hm3]; · iexact Hm3
      isplitl [Hm4]; · iexact Hm4
      iexact Hm
    iexact Hsems
  unfold OwP
  iexact HO

end Body

end Cert.Proof.Run

end
-- ==== Proof.ScCall.lean ====
/-
  What the SparseCore call hands over: the tokens, the positions, the embedding table and the result, cut into the 32 tiles'
  shares; the tile's obligation from `tile_body`; the four arrays cut and joined again.
-/
module

public import proofs.«01_k».proof.Proof.TileBody

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles' numbers -/

/-- Tile `s` of SparseCore `c` has number `2 s + c`. -/
def wF (c : Fin 2) (s : Fin 16) : Fin 32 := ⟨2 * s.val + c.val, by omega⟩

/-- The (SparseCore, tile) pairs are the tiles' numbers. -/
def wE : Fin 2 × Fin 16 ≃ Fin 32 where
  toFun p := wF p.1 p.2
  invFun w := (⟨w.val % 2, Nat.mod_lt _ (by decide)⟩, ⟨w.val / 2, by omega⟩)
  left_inv p := by
    obtain ⟨c, s⟩ := p
    refine Prod.ext (Fin.ext ?_) (Fin.ext ?_) <;> simp only [wF] <;> omega
  right_inv w := Fin.ext (by simp only [wF]; omega)

theorem bigSep_tiles (Φ : Fin 32 → sProp 𝕄) :
    bigSep Finset.univ Φ = bigSep Finset.univ fun c : Fin 2 => bigSep Finset.univ fun s : Fin 16 => Φ (wF c s) :=
  (bigSep_univ_equiv wE Φ).trans (bigSep_univ_prod fun p : Fin 2 × Fin 16 => Φ (wE p))

variable (m : (ℓ : Loc nD τ sig) → Buf (Elt F) ℓ)

/-! ## The four arrays are the tiles' pieces -/

theorem oPts_tiles (d : Dev nD) (f : Buf (Elt F) (oLoc d)) :
    (oLoc d ↦{fullShare} f : sProp 𝕄) = bigSep Finset.univ fun w : Fin 32 => oLoc d ↦[tileRows w.val]{fullShare} f := by
  rw [← pointsTo_biUnion Finset.univ (ℓ := oLoc d) (fun w : Fin 32 => tileRows w.val) tiles_disjoint, tiles_cover]

theorem arrays_tiles (d : Dev nD) (f : Buf (Elt F) (oLoc d)) :
    (iprop((tLoc d ↦{fullShare} tokC m d) ∗ (pLoc d ↦{fullShare} posC) ∗ (eLoc d ↦{fullShare} m (eLoc d)) ∗ oLoc d ↦{fullShare} f) : sProp 𝕄)
      = bigSep Finset.univ fun w : Fin 32 => tilePts m d w f := by
  have ht : (tLoc d ↦{fullShare} tokC m d : sProp 𝕄) = bigSep Finset.univ fun w : Fin 32 => tLoc d ↦{eq w} tokC m d :=
    pointsTo_leaves Finset.univ _ 5 fullShare
  have hp : (pLoc d ↦{fullShare} posC : sProp 𝕄) = bigSep Finset.univ fun w : Fin 32 => pLoc d ↦{eq w} posC :=
    pointsTo_leaves Finset.univ _ 5 fullShare
  have he : (eLoc d ↦{fullShare} m (eLoc d) : sProp 𝕄) = bigSep Finset.univ fun w : Fin 32 => eLoc d ↦{eq w} m (eLoc d) :=
    pointsTo_leaves Finset.univ _ 5 fullShare
  unfold tilePts
  rw [ht, hp, he, oPts_tiles, bigSep_sep', bigSep_sep', bigSep_sep']

variable [FloatOps F]

/-! ## What the handshakes carry -/

/-- SparseCore `c` takes its sixteen tiles' pieces, and brings them back with the rows of the result gathered. -/
def P : (K (F := F)).Pay (nD := nD) (Val := Elt F) (Name := ℕ) (U := UU) where
  st := fun q d c => match q with | 0 => bigSep Finset.univ fun s : Fin 16 => tilePts m d (wF c s) (m (oLoc d))
  dn := fun q d c => match q with | 0 => bigSep Finset.univ fun s : Fin 16 => tilePts m d (wF c s) (gathered m d)
  go := fun q d c i => match q with | 0 => tilePts m d (wF c i) (m (oLoc d))
  td := fun q d c i => match q with | 0 => tilePts m d (wF c i) (gathered m d)
  x := fun _ _ => iprop(emp)

instance tilePts_storable (d : Dev nD) (w : Fin 32) (f : Buf (Elt F) (oLoc d)) : BI.Storable (upEmb : UEmb _ 𝕄) (tilePts m d w f) := by
  unfold tilePts; infer_instance

instance P_storable : (P (F := F) m).IsStorable where
  st q d c := match q with
    | 0 => (inferInstance : BI.Storable (upEmb : UEmb _ 𝕄) (bigSep Finset.univ fun s : Fin 16 => tilePts m d (wF c s) (m (oLoc d))))
  dn q d c := match q with
    | 0 => (inferInstance : BI.Storable (upEmb : UEmb _ 𝕄) (bigSep Finset.univ fun s : Fin 16 => tilePts m d (wF c s) (gathered m d)))
  go q d c i := match q with
    | 0 => (inferInstance : BI.Storable (upEmb : UEmb _ 𝕄) (tilePts m d (wF c i) (m (oLoc d))))
  td q d c i := match q with
    | 0 => (inferInstance : BI.Storable (upEmb : UEmb _ 𝕄) (tilePts m d (wF c i) (gathered m d)))

theorem vecSplit : (K (F := F)).VecSplit' (P m) 0 := by
  intro d c
  show (bigSep Finset.univ fun s : Fin 16 => tilePts m d (wF c s) (m (oLoc d))) ⊢ |={Set.univ}=> iprop(
      (bigSep Finset.univ fun s : Fin 16 => tilePts m d (wF c s) (m (oLoc d)))
      ∗ ((bigSep Finset.univ fun s : Fin 16 => tilePts m d (wF c s) (gathered m d))
          -∗ (bigSep Finset.univ fun s : Fin 16 => tilePts m d (wF c s) (gathered m d))))
  iintro H; imodintro
  isplitl [H]; · iexact H
  iintro H; iexact H

/-! ## The tile's obligation -/

/-- The body's grid coordinates: the SparseCore, the tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation in the call. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- The call's operands, whole, are what its two SparseCores take; -/
theorem st0_eq (d : Dev nD) : (bigSep Finset.univ fun c : Fin ((K (F := F)).nCore 0) => (P m).st 0 d c)
    = iprop((tLoc d ↦{fullShare} tokC m d) ∗ (pLoc d ↦{fullShare} posC) ∗ (eLoc d ↦{fullShare} m (eLoc d)) ∗ oLoc d ↦{fullShare} m (oLoc d)) := by
  rw [arrays_tiles, bigSep_tiles]; rfl

/-- and what they bring back is the operands and the result, gathered. -/
theorem dn0_eq (d : Dev nD) : (bigSep Finset.univ fun c : Fin ((K (F := F)).nCore 0) => (P m).dn 0 d c)
    = iprop((tLoc d ↦{fullShare} tokC m d) ∗ (pLoc d ↦{fullShare} posC) ∗ (eLoc d ↦{fullShare} m (eLoc d)) ∗ oLoc d ↦{fullShare} gathered m d) := by
  rw [arrays_tiles, bigSep_tiles]; rfl

end Cert.Proof.Run

end
-- ==== Proof.TcRun.lean ====
/-
  The TensorCore body run at symbolic staging buffers (`tcRun`).
-/
module

public import proofs.«01_k».proof.Proof.Setup
public import Idealize.ShloMosaic.Lib.Pipeline.RegionsLoop

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
set_option maxRecDepth 65536 in
/-- What the body leaves in the result's staging buffer, a function of what the three operands' staging buffers hold, with the
    proof that the body, from all four buffers held, runs to its return with the operands' buffers as they were and the result's
    buffer at that. -/
def tcRun (c : Dev nD) (i : grid1.Coords) (M0 : Memref sig .tc .vmem S4x2048x128 .f32) (h0 : M0.IsWhole) (M1 : Memref sig .tc .vmem S128x128 .f32) (h1 : M1.IsWhole)
    (M2 : Memref sig .tc .vmem S1x128 .f32) (h2 : M2.IsWhole) (M3 : Memref sig .tc .vmem S4x1x128 .f32) (h3 : M3.IsWhole)
    (f0 : Bf (F := F) c M0) (f1 : Bf (F := F) c M1) (f2 : Bf (F := F) c M2) :
    { W : Bf (F := F) c M3 // ∀ (f3 : Bf (F := F) c M3) (E : Set ℕ) (Q : PUnit.{1} → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) 𝒱₀ c none) E (cc1__tc_body i M0 h0 M1 h1 M2 h2 M3 h3) Q } := by
  refine ⟨?_, fun f3 E Q => ?run⟩
  case run =>
    rw [cc1__tc_body_eq_skeleton]
    unfold cc1__tc_body_skel
    iintro ⟨H0, H1, H2, H3, Hk⟩
    sl_exec!
    sl_step
    iapply Hk
    isplitl [H0]; · iexact H0
    isplitl [H1]; · iexact H1
    isplitl [H2]; · iexact H2
    iexact H3

end Cert.Proof.Run

end
-- ==== Proof.TcRegion.lean ====
/-
  The TensorCore call as a region of the program: its proof data over any contents of its four arrays, the body's obligation at
  the four grid points, and the region entered from the four arrays and left with the result's array written back.
-/
module

public import proofs.«01_k».proof.Proof.TcRun
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## Contents of a whole buffer, from what its memref reads -/

/-- The contents of memref `M`'s buffer which read `X`. -/
def fill (c : Dev nD) {sp : Space} {S : Shape} {e : EltTy} (M : Memref sig .tc sp S e) (X : S.Idx → Elt F e) : Bf (F := F) c M :=
  M.view.write (Elt F) M.view.junk X Finset.univ

theorem read_fill (c : Dev nD) {sp : Space} {S : Shape} {e : EltTy} (M : Memref sig .tc sp S e) (X : S.Idx → Elt F e) :
    M.view.read (Elt F) (fill c M X) = X := View.read_write_univ _ _

/-- A whole buffer's contents are the ones which read what they read. -/
theorem eq_fill (c : Dev nD) {sp : Space} {S : Shape} {e : EltTy} (M : Memref sig .tc sp S e) (h : M.IsWhole) (f : Bf (F := F) c M)
    (X : S.Idx → Elt F e) (hf : M.view.read (Elt F) f = X) : f = fill c M X := by
  refine View.contents_ext M.view (fun y => ?_) fun i hi => ?_
  · rw [hf, read_fill]
  · have hm : i ∈ M.view.set := by rw [h.set_eq_univ]; exact Finset.mem_univ i
    obtain ⟨y, -, hy⟩ := Finset.mem_map.mp hm
    exact absurd hy (hi y)

/-! ## The proof data -/

variable (V : (c : Dev nD) → (b : Ref sig .tc) → Buf (Elt F) ((c : Thread nD τ).loc b))

/-- The gathered rows of the four trees of point `t`, read off the array. -/
abbrev blk0 (c : Dev nD) (t : Fin cfg1.N) : (cfg1.win 0).block.Idx → Elt F (cfg1.win 0).elt := ((cfg1.win 0).blk t).view.read (Elt F) (V c main_v3)
/-- The matrix, read off the array. -/
abbrev blk1 (c : Dev nD) (t : Fin cfg1.N) : (cfg1.win 1).block.Idx → Elt F (cfg1.win 1).elt := ((cfg1.win 1).blk t).view.read (Elt F) (V c main_arg2)
/-- The bias, read off the array. -/
abbrev blk2 (c : Dev nD) (t : Fin cfg1.N) : (cfg1.win 2).block.Idx → Elt F (cfg1.win 2).elt := ((cfg1.win 2).blk t).view.read (Elt F) (V c main_v4)

/-- The body's run at point `t`, on the blocks there. -/
abbrev runAt (c : Dev nD) (t : Fin cfg1.N) :=
  tcRun (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (fill c (st1_0 t) (blk0 V c t)) (fill c (st1_1 t) (blk1 V c t)) (fill c (st1_2 t) (blk2 V c t))

/-- The region's proof data: the arrays at `V`; the operands' buffers keep their blocks, the result's holds what the run leaves. -/
def dat (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => (st1_3 t).view.read (Elt F) (runAt V c t).1
  Φ _ := BI.emp
  q _ := fullShare
  owed _ := 0

theorem before_0 (c : Dev nD) (t : Fin cfg1.N) (d : (cfg1.win 0).block.Idx → Elt F (cfg1.win 0).elt) : (dat V c).before 0 t d = blk0 V c t :=
  (dat V c).before_in_eq_fetched 0 rfl (fun _ => rfl) (fun _ _ _ => rfl) (fun _ => rfl) t d
theorem before_1 (c : Dev nD) (t : Fin cfg1.N) (d : (cfg1.win 1).block.Idx → Elt F (cfg1.win 1).elt) : (dat V c).before 1 t d = blk1 V c t :=
  (dat V c).before_in_eq_fetched 1 rfl (fun _ => rfl) (fun _ _ _ => rfl) (fun _ => rfl) t d
theorem before_2 (c : Dev nD) (t : Fin cfg1.N) (d : (cfg1.win 2).block.Idx → Elt F (cfg1.win 2).elt) : (dat V c).before 2 t d = blk2 V c t :=
  (dat V c).before_in_eq_fetched 2 rfl (fun _ => rfl) (fun _ _ _ => rfl) (fun _ => rfl) t d

/-- The body, from its four buffers with the operands' at their blocks, leaves them as the proof data says. -/
theorem body_obligation (c : Dev nD) : BodyObligation (dat V c) (defs₀ (F := F)) 𝒱₀ none Set.univ := fun t => by
  rw [bigSep_W1, bigSep_W1]
  dsimp only
  have h0 : (st1_0 t).IsWhole := hstage1_0 ((cfg1.slots t 0).cast nbuf1_0)
  have h1 : (st1_1 t).IsWhole := hstage1_1 ((cfg1.slots t 1).cast nbuf1_1)
  have h2 : (st1_2 t).IsWhole := hstage1_2 ((cfg1.slots t 2).cast nbuf1_2)
  have h3 : (st1_3 t).IsWhole := hstage1_3 ((cfg1.slots t 3).cast nbuf1_3)
  unfold owns
  rw [h0.set_eq_univ, h1.set_eq_univ, h2.set_eq_univ, h3.set_eq_univ]
  rw [show (dat V c).Φ t.succ = (dat V c).Φ t.castSucc from rfl, show (dat V c).owesAt none t.succ = (dat V c).owesAt none t.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  have e0 := eq_fill c (st1_0 t) h0 f0 _ hf0
  have e1 := eq_fill c (st1_1 t) h1 f1 _ hf1
  have e2 := eq_fill c (st1_2 t) h2 f2 _ hf2
  subst e0 e1 e2
  iapply ((runAt V c t).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  iexists _; isplitr; swap; (· iexact H3); ipureintro; rfl

/-! ## The region -/

/-- No table is prefetched. -/
abbrev adm : (p : Fin 1) → (pcfgs (F := F) p).Adm := fun p => (cfgs p).toPCfg_adm

/-- The proof data of the program's one pipeline. -/
abbrev pdats : (p : Fin 1) → (c : Dev nD) → Dat τ (Elt F) (HIx 1) ℕ UU ℕ (Pipeline.pin (pcfgs (F := F)) adm p) c := fun _ c => dat V c

/-- The result's array after the region. -/
def tcOut (c : Dev nD) : Buf (Elt F) ((c : Thread nD τ).loc main_v5) := (dat V c).arrAt 3 cfg1.N

set_option backward.isDefEq.respectTransparency.types false in
/-- The region, entered from its four arrays with nothing owed. -/
def reg : Pipeline.RegionSeg (pcfgs (F := F)) adm (pdats V) none defs₀ 𝒱₀ (K (F := F)).L (K (F := F)).lev 0 :=
  Pipeline.RegionSeg.ofArrays (pcfgs (F := F)) adm (pdats V) none defs₀ 𝒱₀ (K (F := F)).L (K (F := F)).lev 0 (fun _ => 0)
    (fun _ => BI.emp) (fun _ => BI.emp) launch1.toP.to₀ rfl (fun c => (body_obligation V c).loose) (fun _ _ => rfl) (fun _ => rfl)
    (fun c => by iintro -; iempintro)
    (fun c => by
      rw [show Pipeline.scopedRest (Pipeline.pin (pcfgs (F := F)) adm 0).spec c = (BI.emp : sProp 𝕄) from scopedRest1_eq c]
      iintro -; isplitr <;> iempintro)
    (fun _ => 0) ⟨fun _ _ _ => Finset.mem_univ _, fun _ _ _ => le_rfl, fun _ _ _ h => absurd h (Nat.lt_irrefl 0)⟩ (fun _ => BI.emp)

/-- The region's four arrays, held whole. -/
abbrev arrs (c : Dev nD) (G : (w : Fin cfg1.W) → Buf (Elt F) ((cfg1.win w).arr.view.loc (c.tc : Thread nD τ))) : sProp 𝕄 :=
  iprop(((c : Thread nD τ).loc main_v3 ↦{fullShare} G 0) ∗ ((c : Thread nD τ).loc main_arg2 ↦{fullShare} G 1)
    ∗ ((c : Thread nD τ).loc main_v4 ↦{fullShare} G 2) ∗ ((c : Thread nD τ).loc main_v5 ↦{fullShare} G 3))

set_option backward.isDefEq.respectTransparency.types false in
theorem arrays_arrs (c : Dev nD) (G : (w : Fin cfg1.W) → Buf (Elt F) ((cfg1.win w).arr.view.loc (c.tc : Thread nD τ))) :
    ((dat V c).arrays G : sProp 𝕄) = arrs c G :=
  (Pipeline.arrays_eq (Pipeline.pin (pcfgs (F := F)) adm) (pdats V) 0 c launch1.arr_whole ((dat V c).share_full fun _ => rfl) G).trans
    (bigSep_W1 (fun w => ((c.tc : Thread nD τ).loc (Pipeline.arrRef spec1 w) ↦{fullShare} G w : sProp 𝕄)))

/-- The call of the TensorCore kernel: from the boundary, the four arrays and nothing owed, it returns with the operands as they
    were and the result at `tcOut`. -/
theorem region_wp (c : Dev nD) (Q : PUnit.{1} → sProp 𝕄) :
    iprop(boundary (c.tc : Thread nD τ) ∗ ((c : Thread nD τ).loc main_v3 ↦{fullShare} V c main_v3) ∗ ((c : Thread nD τ).loc main_arg2 ↦{fullShare} V c main_arg2)
        ∗ ((c : Thread nD τ).loc main_v4 ↦{fullShare} V c main_v4) ∗ ((c : Thread nD τ).loc main_v5 ↦{fullShare} V c main_v5)
        ∗ (∃ W, owes (c : Thread nD τ) (0 : CellTallies nD τ sig (HIx 1)) W) ∗ levAts (K (F := F)).L (K (F := F)).lev
        ∗ Pipeline.cellsGhost cfgs EP 0 c ∗ Pipeline.toksInit cfgs EP 0 c
        ∗ ((boundary (c.tc : Thread nD τ) ∗ ((c : Thread nD τ).loc main_v3 ↦{fullShare} V c main_v3) ∗ ((c : Thread nD τ).loc main_arg2 ↦{fullShare} V c main_arg2)
            ∗ ((c : Thread nD τ).loc main_v4 ↦{fullShare} V c main_v4) ∗ ((c : Thread nD τ).loc main_v5 ↦{fullShare} tcOut V c)
            ∗ ∃ W, owes (c : Thread nD τ) (0 : CellTallies nD τ sig (HIx 1)) W) -∗ Q ⟨⟩))
      ⊢ wp frame (wpE ((K (F := F)).defs (D (F := F))) 𝒱 (c.tc : Thread nD τ) none) Set.univ
          (Prog.lift (.customCall (SparseCore.inner (Pipeline.entry 0)) ())) Q := by
  have hw := Pipeline.RegionSeg.wp (pcfgs (F := F)) adm (pdats V) none cellOf_inj EP defs₀ 𝒱₀ (K (F := F)).L (K (F := F)).lev (reg V) c none
    (fun u hu => nomatch hu) (fun _ => .ret ⟨⟩) Q
  have hl := (K (F := F)).wp_liftProg (D (F := F)) 𝒱 (c.tc : Thread nD τ) Set.univ none
    (.op (.customCall (Pipeline.entry 0) ()) fun _ => .ret ⟨⟩ : Prog (TpuEff nD τ sig (Elt F) (ΛP (F := F)) .tc) PUnit) Q
  refine BIBase.Entails.trans ?_ hl
  refine BIBase.Entails.trans ?_ hw
  have hpre : (reg V).pre c = iprop((dat V c).arrays ((dat V c).arrAt · 0) ∗ BI.emp ∗ BI.emp ∗ ∃ W, owes (c : Thread nD τ) (0 : CellTallies nD τ sig (HIx 1)) W) := rfl
  have hpost : (reg V).post c = iprop((dat V c).arrays ((dat V c).arrAt · cfg1.N) ∗ BI.emp ∗ BI.emp ∗ ∃ W, owes (c : Thread nD τ) (0 : CellTallies nD τ sig (HIx 1)) W) := rfl
  have hend : (arrs c ((dat V c).arrAt · cfg1.N) : sProp 𝕄) = iprop(((c : Thread nD τ).loc main_v3 ↦{fullShare} V c main_v3) ∗ ((c : Thread nD τ).loc main_arg2 ↦{fullShare} V c main_arg2)
      ∗ ((c : Thread nD τ).loc main_v4 ↦{fullShare} V c main_v4) ∗ ((c : Thread nD τ).loc main_v5 ↦{fullShare} tcOut V c)) := by
    have h0 : (dat V c).arrAt 0 cfg1.N = V c main_v3 := (dat V c).arrAt_in 0 rfl _
    have h1 : (dat V c).arrAt 1 cfg1.N = V c main_arg2 := (dat V c).arrAt_in 1 rfl _
    have h2 : (dat V c).arrAt 2 cfg1.N = V c main_v4 := (dat V c).arrAt_in 2 rfl _
    unfold arrs; beta_reduce; rw [h0, h1, h2]; rfl
  rw [hpre, hpost, arrays_arrs, arrays_arrs, hend]
  iintro ⟨Hb, H3, Ha2, H4, H5, HO, Hl, Hg, Ht, Hk⟩
  isplitl [Hk]
  · iintro ⟨Hb, ⟨H3, Ha2, H4, H5⟩, -, -, HO⟩
    rw [wp_ret]
    imodintro
    iapply Hk
    isplitl [Hb]; · iexact Hb
    isplitl [H3]; · iexact H3
    isplitl [Ha2]; · iexact Ha2
    isplitl [H4]; · iexact H4
    isplitl [H5]; · iexact H5
    iexact HO
  isplitl [Hb]; · iexact Hb
  isplitl [H3 Ha2 H4 H5 HO]
  · isplitl [H3 Ha2 H4 H5]
    · isplitl [H3]; · iexact H3
      isplitl [Ha2]; · iexact Ha2
      isplitl [H4]; · iexact H4
      iexact H5
    isplitr; · iempintro
    isplitr; · iempintro
    iexact HO
  isplitl [Hl]; · iexact Hl
  isplitl [Hg] <;> iassumption

end Cert.Proof.Run

end
-- ==== Proof.MainRun.lean ====
/-
  The program on the TensorCore, and the whole program's run: the padding of the tokens, the SparseCore call, the two reshapes, the
  TensorCore call and the last reshape. Every argument array ends as it was, the result as `outV` says, every counter at zero.
-/
module

public import proofs.«01_k».proof.Proof.ScCall
public import proofs.«01_k».proof.Proof.TcRegion

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.ShloMosaic.ShareLeaves Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The array `b` of device `d`. -/
abbrev locT (d : Dev nD) (b : Ref sig .tc) : Loc nD τ sig := (SparseCore.T d).loc b

/-! ## The values of the program's arrays -/

/-- The gathered rows, a tree per leading index. -/
def rowsV (d : Dev nD) : Buf (Elt F) (locT d main_v3) := fun i => shapeCast S16x2048x128 (gathered m d) shapeCasts_S32768x128_S16x2048x128 i
/-- The bias as one row. -/
def biasV (d : Dev nD) : Buf (Elt F) (locT d main_v4) := fun i => shapeCast S1x128 (m (locT d main_arg3)) shapeCasts_S128_S1x128 i

/-- The arrays the TensorCore call starts from. -/
def regV (d : Dev nD) : (b : Ref sig .tc) → Buf (Elt F) (locT d b) :=
  Function.update (Function.update (fun b => m (locT d b)) main_v3 (rowsV m d)) main_v4 (biasV m d)

theorem regV_v3 (d : Dev nD) : regV m d main_v3 = rowsV m d :=
  (Function.update_of_ne (show main_v3 ≠ main_v4 by decide) _ _).trans (Function.update_self _ _ _)
theorem regV_v4 (d : Dev nD) : regV m d main_v4 = biasV m d := Function.update_self _ _ _
theorem regV_arg2 (d : Dev nD) : regV m d main_arg2 = m (locT d main_arg2) :=
  (Function.update_of_ne (show main_arg2 ≠ main_v4 by decide) _ _).trans (Function.update_of_ne (show main_arg2 ≠ main_v3 by decide) _ _)
theorem regV_v5 (d : Dev nD) : regV m d main_v5 = m (locT d main_v5) :=
  (Function.update_of_ne (show main_v5 ≠ main_v4 by decide) _ _).trans (Function.update_of_ne (show main_v5 ≠ main_v3 by decide) _ _)

/-- The program's result. -/
def outV (d : Dev nD) : Buf (Elt F) (locT d main_v6) := fun i => shapeCast S16x128 (tcOut (regV m) d) shapeCasts_S16x1x128_S16x128 i

/-! ## The host's operations -/

abbrev opC : HloOp τ sig (Elt F) := StableHlo.nullary main_c (fun i => lit0 (S256x128.rowMajor i))
abbrev opC0 : HloOp τ sig (Elt F) := StableHlo.nullary main_c_0 (constantI S_ 32 0#32)
abbrev opB : HloOp τ sig (Elt F) := StableHlo.unary main_c_0 main_v0
  (broadcastInDim S16x1 ![] bcast_S_S16x1 : (⟨S_, .i32⟩ : BufTy).Contents (Elt F) → (⟨S16x1, .i32⟩ : BufTy).Contents (Elt F))
abbrev opP : HloOp τ sig (Elt F) := StableHlo.binary main_arg0 main_v0 main_v1
  ((fun a b => concatenate S16x2048 1 [⟨S16x2047, a⟩, ⟨S16x1, b⟩] concatenates_S16x2047_S16x1_S16x2048_d1) :
    (⟨S16x2047, .i32⟩ : BufTy).Contents (Elt F) → (⟨S16x1, .i32⟩ : BufTy).Contents (Elt F) → (⟨S16x2048, .i32⟩ : BufTy).Contents (Elt F))

abbrev dref (b : Ref sig .tc) : DevRef τ sig := Proc.devRef .tc b

/-- The arrays the padding works on. -/
abbrev S5 : Finset (DevRef τ sig) := {dref main_arg0, dref main_c, dref main_c_0, dref main_v0, dref main_v1}

theorem held_S5 (d : Dev nD) (W : Valuation τ sig (Elt F)) :
    (held (T d) S5 W : sProp 𝕄)
      = iprop((aLoc d ↦{fullShare} W (dref main_arg0)) ∗ (pLoc d ↦{fullShare} W (dref main_c)) ∗ (locT d main_c_0 ↦{fullShare} W (dref main_c_0))
          ∗ (locT d main_v0 ↦{fullShare} W (dref main_v0)) ∗ tLoc d ↦{fullShare} W (dref main_v1)) := by
  unfold held S5
  rw [SparseCore.bigSep_insert' (by decide), SparseCore.bigSep_insert' (by decide), SparseCore.bigSep_insert' (by decide),
    SparseCore.bigSep_insert' (by decide), bigSep_singleton]

theorem hC : (opC (F := F)).bufs ⊆ S5 := show ({dref main_c} : Finset (DevRef τ sig)) ⊆ S5 by decide
theorem hC0 : (opC0 (F := F)).bufs ⊆ S5 := show ({dref main_c_0} : Finset (DevRef τ sig)) ⊆ S5 by decide
theorem hB : (opB (F := F)).bufs ⊆ S5 := show ({dref main_c_0, dref main_v0} : Finset (DevRef τ sig)) ⊆ S5 by decide
theorem hP : (opP (F := F)).bufs ⊆ S5 := show ({dref main_arg0, dref main_v0, dref main_v1} : Finset (DevRef τ sig)) ⊆ S5 by decide

/-- The launch valuation, and the one after the padding. -/
def V0 (d : Dev nD) : Valuation τ sig (Elt F) := fun b => m (d, b)
abbrev V4 (d : Dev nD) : Valuation τ sig (Elt F) :=
  (opP (F := F)).result ((opB (F := F)).result ((opC0 (F := F)).result ((opC (F := F)).result (V0 m d))))

theorem V4_a (d : Dev nD) : V4 m d (dref main_arg0) = m (aLoc d) :=
  (StableHlo.binary_result_ne _ _ _ _ _ _ _ _ (by decide)).trans ((StableHlo.unary_result_ne _ _ _ _ _ _ (by decide)).trans
    ((StableHlo.nullary_result_ne _ _ _ _ (by decide)).trans (StableHlo.nullary_result_ne _ _ _ _ (by decide))))
theorem V4_c (d : Dev nD) : V4 m d (dref main_c) = posC :=
  (StableHlo.binary_result_ne _ _ _ _ _ _ _ _ (by decide)).trans ((StableHlo.unary_result_ne _ _ _ _ _ _ (by decide)).trans
    ((StableHlo.nullary_result_ne _ _ _ _ (by decide)).trans (StableHlo.nullary_result _ _ _ _)))
theorem V4_t (d : Dev nD) : V4 m d (dref main_v1) = tokC m d := by
  have h0 : (opB (F := F)).result ((opC0 (F := F)).result ((opC (F := F)).result (V0 m d))) (dref main_arg0) = m (aLoc d) :=
    (StableHlo.unary_result_ne _ _ _ _ _ _ (by decide)).trans
      ((StableHlo.nullary_result_ne _ _ _ _ (by decide)).trans (StableHlo.nullary_result_ne _ _ _ _ (by decide)))
  have h1 : (opB (F := F)).result ((opC0 (F := F)).result ((opC (F := F)).result (V0 m d))) (dref main_v0)
      = (broadcastInDim S16x1 ![] bcast_S_S16x1 (constantI S_ 32 0#32) : (⟨S16x1, .i32⟩ : BufTy).Contents (Elt F)) :=
    (StableHlo.unary_result _ _ _ _ _ _).trans (congrArg _ (StableHlo.nullary_result _ _ _ _))
  exact (StableHlo.binary_result _ _ _ _ _ _ _ _).trans
    (congrArg₂ (fun a b => concatenate S16x2048 1 [⟨S16x2047, a⟩, ⟨S16x1, b⟩] concatenates_S16x2047_S16x1_S16x2048_d1) h0 h1)

theorem held_V4 (d : Dev nD) : (held (T d) S5 (V4 m d) : sProp 𝕄)
    = iprop((aLoc d ↦{fullShare} m (aLoc d)) ∗ (pLoc d ↦{fullShare} posC) ∗ (locT d main_c_0 ↦{fullShare} V4 m d (dref main_c_0))
          ∗ (locT d main_v0 ↦{fullShare} V4 m d (dref main_v0)) ∗ tLoc d ↦{fullShare} tokC m d) := by
  rw [held_S5, V4_a, V4_c, V4_t]

include m in
/-- A reshape, from its two arrays. -/
theorem wp_reshape (d : Dev nD) (x y : Ref sig .tc) (he : x.ty.elt = y.ty.elt) (hn : x.ty.shape.ShapeCasts y.ty.shape)
    (hx : x.space ≠ .host ∧ (dref x).isScoped = false) (hy : y.space ≠ .host ∧ (dref y).isScoped = false) (hne : y ≠ x)
    (f : Buf (Elt F) (locT d x)) (g : Buf (Elt F) (locT d y)) (Q : PUnit.{1} → sProp 𝕄) :
    iprop(boundary (T d) ∗ (locT d x ↦{fullShare} f) ∗ (locT d y ↦{fullShare} g)
        ∗ ((boundary (T d) ∗ (locT d x ↦{fullShare} f)
            ∗ locT d y ↦{fullShare} (fun i => he ▸ shapeCast y.ty.shape f hn i : y.ty.Contents (Elt F))) -∗ Q ⟨⟩))
      ⊢ wp frame (wpE ((K (F := F)).defs (D (F := F))) 𝒱 (SparseCore.T d) none) Set.univ
          (hlo rfl (StableHlo.reshape x y he hn hx hy) fun _ => .ret ⟨⟩) Q := by
  have hd : dref y ≠ dref x := fun h => hne (Proc.devRef_injective .tc h)
  let W : Valuation τ sig (Elt F) := Function.update (Function.update (V0 m d) (dref x) f) (dref y) g
  have hWx : W (dref x) = f := (Function.update_of_ne hd.symm _ _).trans (Function.update_self _ _ _)
  have hWy : W (dref y) = g := Function.update_self _ _ _
  have hs : ∀ W : Valuation τ sig (Elt F), (held (T d) {dref x, dref y} W : sProp 𝕄)
      = iprop((locT d x ↦{fullShare} W (dref x)) ∗ locT d y ↦{fullShare} W (dref y)) := fun W => by
    unfold held
    rw [SparseCore.bigSep_insert' (by simpa using hd.symm), bigSep_singleton]
  have hres : (held (T d) {dref x, dref y} ((StableHlo.reshape x y he hn hx hy).result W) : sProp 𝕄)
      = iprop((locT d x ↦{fullShare} f)
        ∗ locT d y ↦{fullShare} (fun i => he ▸ shapeCast y.ty.shape f hn i : y.ty.Contents (Elt F))) := by
    have h1 := (StableHlo.reshape_result_ne x y he hn hx hy W (Ne.symm hne)).trans hWx
    have h2 := StableHlo.reshape_result x y he hn hx hy W
    rw [show W (Proc.devRef .tc x) = f from hWx] at h2
    rw [hs, show (StableHlo.reshape x y he hn hx hy).result W (dref x) = f from h1]
    exact congrArg (fun g => iprop((locT d x ↦{fullShare} f) ∗ locT d y ↦{fullShare} g)) h2
  iintro ⟨Hb, Hx, Hy, Hk⟩
  iapply (wp_hlo_within 𝒱 (SparseCore.T d) none Set.univ (op := StableHlo.reshape x y he hn hx hy) (S := {dref x, dref y}) (Finset.Subset.refl _) (V := W)) $$ [Hb Hx Hy]
  · isplitl [Hb]; · iexact Hb
    rw [hs, hWx, hWy]
    isplitl [Hx] <;> iassumption
  iintro ⟨Hb, Hh⟩
  ihave Hh' := (Entails.of_eq hres) $$ Hh
  icases Hh' with ⟨Hx, Hy⟩
  rw [wp_ret]
  imodintro
  iapply Hk
  isplitl [Hb]; · iexact Hb
  isplitl [Hx] <;> iassumption

end Cert.Proof.Run

end
-- ==== Proof.ProgRun.lean ====
/-
  The whole program's run: from any launch memory whose tokens name rows of the embedding table, every fair execution ends with
  the argument arrays as they were, the result at `outV`, and every counter at zero.
-/
module

public import proofs.«01_k».proof.Proof.MainRun

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks,
  initOf (Pipeline.cells (nD := nD) (τ := τ) cfgs cellOf_inj) (Pipeline.launchToks (nD := nD) (τ := τ) cfgs cellOf_inj), (1 : Counters))

/-- What the TensorCore call's region starts from. -/
def G (d : Dev nD) : sProp 𝕄 := iprop(Pipeline.cellsGhost cfgs EP 0 d ∗ Pipeline.toksInit cfgs EP 0 d)

theorem bigSep_none {I : Type} (s : Finset I) : (bigSep s fun _ => iprop(emp)) = (iprop(emp) : sProp 𝕄) := bigSep_emp_const s

theorem G_all : iprop((bigSep Finset.univ fun c : Dev nD => bigSep Finset.univ fun p => Pipeline.cellsGhost cfgs EP p c)
      ∗ (bigSep Finset.univ fun c : Dev nD => bigSep Finset.univ fun p => (Pipeline.toksInit cfgs EP p c : sProp 𝕄)))
    = (bigSep Finset.univ fun d : Dev nD => (G d : sProp 𝕄)) := by
  unfold G
  rw [bigSep_sep']
  congr 1 <;> exact bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, Hr⟩
  ihave H := (own_pair_emb (embR : Emb (UP × Counters) 𝕄) _ _) $$ Hr
  icases H with ⟨HP, -⟩
  ihave HP := (Entails.of_eq (show BI.own (((Emb.inl : Emb UP (UP × Counters)).trans (embR : Emb (UP × Counters) 𝕄)) _) = BI.own ((EP (F := F)) _) from by unfold EP; rfl)) $$ HP
  imod (Pipeline.fund_ghost (nD := nD) (τ := τ) cfgs (EP (F := F)) cellOf_inj) $$ HP with HG
  imodintro
  isplitl [HH]; · iexact HH
  isplitl [HG]
  · ihave HG' := (Entails.of_eq (G_all (F := F))) $$ HG
    iexact HG'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

theorem unscopedBufs_eq (d : Dev nD) (W : (b : Ref sig .tc) → Buf (Elt F) ((d.tc : Thread nD τ).loc b)) :
    (unscopedBufs d W : sProp 𝕄) = iprop((locT d main_arg0 ↦{fullShare} W main_arg0) ∗ (locT d main_arg1 ↦{fullShare} W main_arg1)
      ∗ (locT d main_arg2 ↦{fullShare} W main_arg2) ∗ (locT d main_arg3 ↦{fullShare} W main_arg3) ∗ (locT d main_arg4 ↦{fullShare} W main_arg4)
      ∗ (locT d main_c ↦{fullShare} W main_c) ∗ (locT d main_c_0 ↦{fullShare} W main_c_0) ∗ (locT d main_v0 ↦{fullShare} W main_v0)
      ∗ (locT d main_v1 ↦{fullShare} W main_v1) ∗ (locT d main_v2 ↦{fullShare} W main_v2) ∗ (locT d main_v3 ↦{fullShare} W main_v3)
      ∗ (locT d main_v4 ↦{fullShare} W main_v4) ∗ (locT d main_v5 ↦{fullShare} W main_v5) ∗ locT d main_v6 ↦{fullShare} W main_v6) := by
  unfold unscopedBufs
  rw [show (Finset.univ.filter fun b : Ref sig .tc => ¬ b.isScoped) = {main_arg0, main_arg1, main_arg2, main_arg3, main_arg4, main_c, main_c_0, main_v0,
      main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What `main` leaves the claims. -/
abbrev FIN (d : Dev nD) : sProp 𝕄 :=
  iprop((locT d main_arg0 ↦{fullShare} m (locT d main_arg0)) ∗ (locT d main_arg1 ↦{fullShare} m (locT d main_arg1))
    ∗ (locT d main_arg2 ↦{fullShare} m (locT d main_arg2)) ∗ (locT d main_arg3 ↦{fullShare} m (locT d main_arg3))
    ∗ (locT d main_arg4 ↦{fullShare} m (locT d main_arg4)) ∗ locT d main_v6 ↦{fullShare} outV m d)

/-- Whatever the TensorCore waited on stays below the next call's level. -/
theorem wbelow_one (d : Dev nD) (W : Waits sig (HIx 1)) : (K (F := F)).WBelow (T d) W (8 * 1) := by
  intro p _
  rcases hp : p.2 with _ | q
  · exact Nat.zero_le _
  · refine ((K (F := F)).lev_some_le _ q).trans ?_
    have := q.isLt
    show 8 * q.val + 7 ≤ 8 * 1
    omega

/-- `main` on the TensorCore of device `d`. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Ha4, Hc, Hc0, H0, H1, H2, H3, H4, H5, H6⟩, Hts, -⟩, HG⟩
  -- the padding
  ihave Hheld := (Entails.of_eq (held_S5 (F := F) d (V0 m d)).symm) $$ [Ha0 Hc Hc0 H0 H1]
  · isplitl [Ha0]; · iexact Ha0
    isplitl [Hc]; · iexact Hc
    isplitl [Hc0]; · iexact Hc0
    isplitl [H0]; · iexact H0
    iexact H1
  iapply (wp_hlo_within 𝒱 (SparseCore.T d) none Set.univ (op := opC) (S := S5) hC (V := V0 m d)) $$ [Hb Hheld]
  · isplitl [Hb] <;> iassumption
  iintro ⟨Hb, Hheld⟩
  rw [wp_ret]; imodintro
  iapply (wp_hlo_within 𝒱 (SparseCore.T d) none Set.univ (op := opC0) (S := S5) hC0 (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opB) (S := S5) hB
    (V := (opC0 (F := F)).result ((opC (F := F)).result (V0 m d)))) $$ [Hb Hheld]
  · isplitl [Hb] <;> iassumption
  iintro ⟨Hb, Hheld⟩
  rw [wp_ret]; imodintro
  iapply (wp_hlo_within 𝒱 (SparseCore.T d) none Set.univ (op := opP) (S := S5) hP
    (V := (opB (F := F)).result ((opC0 (F := F)).result ((opC (F := F)).result (V0 m d))))) $$ [Hb Hheld]
  · isplitl [Hb] <;> iassumption
  iintro ⟨Hb, Hheld⟩
  rw [wp_ret]; imodintro
  ihave Hh := (Entails.of_eq (held_V4 (F := F) m d)) $$ Hheld
  icases Hh with ⟨Ha0, Hc, -, -, H1⟩
  -- the SparseCore call
  iapply ((K (F := F)).wp_run (D (F := F)) 𝒱 (EH := EH) (P := P m) κ d 0) $$ [Hst Ha0 Ha1 Ha2 Ha3 Ha4 Hc H1 H2 H3 H4 H5 H6 Hb Hts HG]
  isplitr; · iexact Hctx
  isplitl [Hst]; · iexact Hst
  isplitl [H1 Hc Ha1 H2]
  · rw [st0_eq]
    isplitl [H1]; · iexact H1
    isplitl [Hc]; · iexact Hc
    isplitl [Ha1]; · iexact Ha1
    iexact H2
  iintro ⟨Hst, Hdn⟩
  ihave Hdn' := (Entails.of_eq (dn0_eq m d)) $$ Hdn
  icases Hdn' with ⟨-, -, Ha1, H2⟩
  -- the gathered rows by tree; the bias as a row
  iapply (wp_reshape m d main_v2 main_v3 rfl shapeCasts_S32768x128_S16x2048x128 _ _ (by decide) (gathered m d) (m (locT d main_v3)) _)
  isplitl [Hb]; · iexact Hb
  isplitl [H2]; · iexact H2
  isplitl [H3]; · iexact H3
  iintro ⟨Hb, -, H3⟩
  iapply (wp_reshape m d main_arg3 main_v4 rfl shapeCasts_S128_S1x128 _ _ (by decide) (m (locT d main_arg3)) (m (locT d main_v4)) _)
  isplitl [Hb]; · iexact Hb
  isplitl [Ha3]; · iexact Ha3
  isplitl [H4]; · iexact H4
  iintro ⟨Hb, Ha3, H4⟩
  -- the TensorCore call
  unfold SparseCore.Cfg.tcSt
  icases Hst with ⟨⟨%W, -, HO⟩, Hst⟩
  rw [show (K (F := F)).Otc d ((0 : Fin 1).val + 1) = 0 from (K (F := F)).Otc_end d (Nat.le_refl 1), show (K (F := F)).Otc d 1 = 0 from (K (F := F)).Otc_end d (Nat.le_refl 1)]
  unfold G
  icases HG with ⟨Hg, Ht⟩
  iapply (region_wp (regV m) d _)
  rw [regV_v3, regV_arg2, regV_v4, regV_v5]
  isplitl [Hb]; · iexact Hb
  isplitl [H3]; · iexact H3
  isplitl [Ha2]; · iexact Ha2
  isplitl [H4]; · iexact H4
  isplitl [H5]; · iexact H5
  isplitl [HO]; · iexists W; iexact HO
  isplitr; · iapply ((K (F := F)).ctx_levAts κ); iexact Hctx
  isplitl [Hg]; · iexact Hg
  isplitl [Ht]; · iexact Ht
  iintro ⟨Hb, -, Ha2, -, H5, %W', HO⟩
  -- the result
  iapply (wp_reshape m d main_v5 main_v6 rfl shapeCasts_S16x1x128_S16x128 _ _ (by decide) (tcOut (regV m) d) (m (locT d main_v6)) _)
  isplitl [Hb]; · iexact Hb
  isplitl [H5]; · iexact H5
  isplitl [H6]; · iexact H6
  iintro ⟨Hb, -, H6⟩
  imodintro
  isplitl [HO Hst]
  · isplitl [HO]
    · iexists W'; isplitr
      · ipureintro; exact wbelow_one d W'
      · iexact HO
    · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    iexact H6
  isplitl [Hb] <;> iassumption

/-! ## The claim's run -/

/-- What the claims read of device `d`'s final state. -/
def fq (d : Dev nD) (s' : Phys nD τ sig (Elt F)) : Prop :=
  s'.mem.mem (locT d main_arg0) = m (locT d main_arg0) ∧ s'.mem.mem (locT d main_arg1) = m (locT d main_arg1)
    ∧ s'.mem.mem (locT d main_arg2) = m (locT d main_arg2) ∧ s'.mem.mem (locT d main_arg3) = m (locT d main_arg3)
    ∧ s'.mem.mem (locT d main_arg4) = m (locT d main_arg4) ∧ s'.mem.mem (locT d main_v6) = outV m d

/-- A whole array's points-to says what memory holds. -/
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H6⟩, HSI⟩
  ihave H := (agree_whole s' (locT d main_arg0) _) $$ [HSI H0]; · isplitl [H0] <;> iassumption
  icases H with ⟨%h0, HSI⟩
  ihave H := (agree_whole s' (locT d main_arg1) _) $$ [HSI H1]; · isplitl [H1] <;> iassumption
  icases H with ⟨%h1, HSI⟩
  ihave H := (agree_whole s' (locT d main_arg2) _) $$ [HSI H2]; · isplitl [H2] <;> iassumption
  icases H with ⟨%h2, HSI⟩
  ihave H := (agree_whole s' (locT d main_arg3) _) $$ [HSI H3]; · isplitl [H3] <;> iassumption
  icases H with ⟨%h3, HSI⟩
  ihave H := (agree_whole s' (locT d main_arg4) _) $$ [HSI H4]; · isplitl [H4] <;> iassumption
  icases H with ⟨%h4, HSI⟩
  ihave H := (agree_whole s' (locT d main_v6) _) $$ [HSI H6]; · isplitl [H6] <;> iassumption
  icases H with ⟨%h6, -⟩
  ipureintro; exact ⟨h0, h1, h2, h3, h4, h6⟩

/-- The final states: per device the arguments unchanged and the result at `outV`; every counter at zero. -/
def QC : PUnit × MemSt nD τ sig (Elt F) → Prop := fun r =>
  (∀ d : Dev nD, r.2.mem (locT d main_arg0) = m (locT d main_arg0) ∧ r.2.mem (locT d main_arg1) = m (locT d main_arg1)
    ∧ r.2.mem (locT d main_arg2) = m (locT d main_arg2) ∧ r.2.mem (locT d main_arg3) = m (locT d main_arg3)
    ∧ r.2.mem (locT d main_arg4) = m (locT d main_arg4) ∧ r.2.mem (locT d main_v6) = outV m d) ∧ r.2.sem = fun _ => 0

/-- The program run: all 35 threads, from any launch memory whose tokens are rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Run

end
-- ==== Proof.Frames.lean ====
/-
  The three frames: the kernel as printed and its idealization from the one run, the reference from its own.
-/
module

public import proofs.«01_k».proof.Defs
public import proofs.«01_k».proof.Proof.ProgRun
public import proofs.«01_k».proof.Proof.Gen.Kernel
public import proofs.«01_k».proof.Proof.Gen.ReferenceIdeal
public import proofs.«01_k».proof.Proof.Gen.ReferenceIdeal.Run
public import proofs.«01_k».proof.Proof.Gen.Pre_in_vocab
public import Idealize.ShloMosaic.Lib.ReduceAll

@[expose] public section

noncomputable section

namespace Cert.Proof.Run

open Idealize.ShloMosaic Idealize.SL.Sem

/-- A word which is at least zero and below 100000, signed, is a number below 100000. -/
theorem word_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition's value: every token names a row of the embedding table. -/
theorem tokens_lt {F : FTy → Type} [FloatOps F] (a : IVec Pre_in_vocab.S16x2047 32) (e w b s) (h : Pre_in_vocab.fn (F := F) a e w b s = fun _ => 1#1)
    (i : Pre_in_vocab.S16x2047.Idx) : (a i).toNat < 100000 := by
  have e := congrFun h (fun j => j.elim0)
  exact word_lt _ (Host.reduce_andi_all _ _ _ _ _ e i)

theorem ok_ideal (m : (ℓ : Loc KernelIdeal.nD KernelIdeal.τ KernelIdeal.sig) → Buf (Elt Ideal) ℓ) (h : Cert.Pre_KernelIdeal m) : PreOK (F := Ideal) m :=
  fun d j => tokens_lt _ _ _ _ _ (h d) j

theorem ok_bits (m : (ℓ : Loc Kernel.nD Kernel.τ Kernel.sig) → Buf (Elt Bits) ℓ) (h : Cert.Pre_Kernel m) : PreOK (F := Bits) m :=
  fun d j => tokens_lt _ _ _ _ _ (h d) j

theorem frame_KernelIdeal : Cert.quiescent_KernelIdeal := fun m ρ h =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Ideal) m ρ (ok_ideal m h))

/-- The two printed texts name the same SparseCore body. -/
theorem same_scBody : Cert.Kernel.cc0__sc_gather_body (F := Bits) = Cert.KernelIdeal.cc0__sc_gather_body (F := Bits) := rfl

set_option maxHeartbeats 4000000 in
/-- The two printed texts name the same TensorCore body. -/
theorem same_tcBody : Cert.Kernel.cc1__tc_body (F := Bits) = Cert.KernelIdeal.cc1__tc_body (F := Bits) := rfl

set_option maxHeartbeats 4000000 in
/-- The two tables of kernel bodies are one, read at the machine's floats. -/
theorem same_defs₀ : Cert.Kernel.defs₀ (F := Bits) = Cert.KernelIdeal.defs₀ (F := Bits) := by
  funext p ℓ a
  match p, ℓ, a with
  | .scVector c s, 0, a => exact rfl
  | .tc, 1, (t, s) => exact rfl
  | .tc, 0, _ => rfl
  | .scVector c s, 1, _ => rfl
  | .scScalar c, 0, _ => rfl
  | .scScalar c, 1, _ => rfl

/-- The two whole body tables are one. -/
theorem same_defs : Cert.Kernel.defs (F := Bits) = Cert.KernelIdeal.defs (F := Bits) := by
  unfold Cert.Kernel.defs Cert.KernelIdeal.defs
  exact congrArg (fun d => Cert.KernelIdeal.sc.defs (Pipeline.defs Cert.KernelIdeal.pcfgs d)) same_defs₀

set_option maxHeartbeats 4000000 in
/-- The two host functions are one. -/
theorem same_main : Cert.Kernel.main (F := Bits) = Cert.KernelIdeal.main (F := Bits) := by
  funext d
  unfold Cert.Kernel.main Cert.KernelIdeal.main
  rfl

/-- The two families of threads are one. -/
theorem same_threads : Cert.Kernel.threads (F := Bits) = Cert.KernelIdeal.threads (F := Bits) :=
  congrArg (fun f => Cert.KernelIdeal.sc.threads f) same_main

/-- What the run leaves, of the kernel as printed, at the machine's floats. -/
theorem run_Kernel (m : (ℓ : Loc KernelIdeal.nD KernelIdeal.τ KernelIdeal.sig) → Buf (Elt Bits) ℓ) (ρ) (h : PreOK (F := Bits) m) :
    θ_run (Cert.Kernel.defs (F := Bits)) (Cert.Kernel.threads (F := Bits)) ⟨m, fun _ => 0, ρ⟩ (QC (F := Bits) m) :=
  (congr (congrArg (fun (D : Defs KernelIdeal.nD KernelIdeal.τ KernelIdeal.sig (Elt Bits) _) t =>
    θ_run D t ⟨m, fun _ => 0, ρ⟩ (QC (F := Bits) m)) same_defs) same_threads).mpr (run_main (F := Bits) m ρ h)

/-- The kernel as printed runs to the end on every core, its semaphores back at zero and its arguments unchanged. -/
theorem frame_Kernel : Cert.quiescent_Kernel := fun m ρ h =>
  (θ_run (Cert.Kernel.defs (F := Bits)) _ _).mono (fun _ (h : QC (F := Bits) m _) => ⟨fun c => ⟨(h.1 c).1, (h.1 c).2.1, (h.1 c).2.2.1, (h.1 c).2.2.2.1, (h.1 c).2.2.2.2.1⟩, h.2⟩)
    (run_Kernel m ρ (ok_bits m h))

/-- The reference runs from any arguments. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where the tokens are in range, beside the value claim. -/
theorem frame_ReferenceIdeal_in_vocab : Cert.quiescent_ReferenceIdeal_pre_in_vocab := fun m ρ _ => frame_ReferenceIdeal m ρ True.intro

end Cert.Proof.Run

end
-- ==== Proof.RefStep.lean ====
/-
  One level of the reference's sums, for any number `K` of children: the children's rows gathered along the node axis and
  added to their parents' rows (`step_apply`).
-/
module

public import Idealize.ShloMosaic.PureOps
public import Idealize.ShloMosaic.PureOps.Ideal
public import Idealize.ShloMosaic.Lib.ValueIdx
public import Idealize.ShloMosaic.Lib.Routing.Ops

@[expose] public section

noncomputable section

namespace Cert.Proof.RefStep

open Idealize.ShloMosaic Idealize.ShloMosaic.ValueIdx

/-- The nodes' rows: 16 trees of 2047 nodes. -/
abbrev SY : Shape := ⟨3, ![16, 2047, 128]⟩

/-- Rows taken along the node axis, one per index. -/
abbrev gd (K : ℕ) (wf : GatherDims.WF SY ⟨2, ![K, 1]⟩ ⟨3, ![16, K, 128]⟩ [0, 2] [1] [] [1] [] 1 ![16, 1, 128]) :
    GatherDims SY ⟨2, ![K, 1]⟩ ⟨3, ![16, K, 128]⟩ where
  offsetDims := [0, 2]
  collapsedSliceDims := [1]
  operandBatchingDims := []
  startIndicesBatchingDims := []
  startIndexMap := [1]
  indexVectorDim := 1
  sliceSizes := ![16, 1, 128]
  wf := wf

/-- Rows added along the node axis, one per index. -/
abbrev sd (K : ℕ) (wf : ScatterDims.WF SY ⟨2, ![K, 1]⟩ ⟨3, ![16, K, 128]⟩ [0, 2] [1] [1] 1) :
    ScatterDims SY ⟨2, ![K, 1]⟩ ⟨3, ![16, K, 128]⟩ where
  updateWindowDims := [0, 2]
  insertedWindowDims := [1]
  scatterDimsToOperandDims := [1]
  indexVectorDim := 1
  wf := wf

variable {K : ℕ}

theorem gather_level (wf) (y : SY.Idx → EReal) (J : IVec ⟨2, ![K, 1]⟩ 32) (t : Fin 16) (k : Fin K) (e : Fin 128) (c : Fin 2047)
    (hJ : J (ix2 k (0 : Fin 1)) = BitVec.ofNat 32 c.val) :
    Host.gather (gd K wf) y J (ix3 t k e) = y (ix3 t c e) := by
  have hc := c.isLt
  unfold Host.gather
  refine congrArg y (funext fun a => Fin.ext ?_)
  show (gd K wf).start (ix3 t k e) J a + (gd K wf).batchCoord (ix3 t k e) a + (gd K wf).offCoord (ix3 t k e) a = _
  rw [GatherDims.batchCoord_eq_zero _ _ _ List.not_mem_nil]
  match a with
  | ⟨0, _⟩ =>
    have hs : (gd K wf).start (ix3 t k e) J (0 : Fin 3) = 0 := by
      unfold GatherDims.start
      rw [dif_neg (show ¬ (0 : Fin 3) ∈ ([1] : List (Fin 3)) by decide)]
    have ho : (gd K wf).offCoord (ix3 t k e) (0 : Fin 3) = t.val := rfl
    show (gd K wf).start (ix3 t k e) J (0 : Fin 3) + 0 + (gd K wf).offCoord (ix3 t k e) (0 : Fin 3) = t.val
    rw [hs, ho]; omega
  | ⟨1, _⟩ =>
    have ho : (gd K wf).offCoord (ix3 t k e) (1 : Fin 3) = 0 := rfl
    have hs : (gd K wf).start (ix3 t k e) J (1 : Fin 3) = c.val := by
      unfold GatherDims.start
      rw [dif_pos (show (1 : Fin 3) ∈ (gd K wf).startIndexMap from List.mem_singleton.mpr rfl)]
      have hsi : (gd K wf).siIdx (ix3 t k e) ⟨List.idxOf (1 : Fin 3) (gd K wf).startIndexMap,
          List.idxOf_lt_length_iff.2 (List.mem_singleton.mpr rfl)⟩ = ix2 k (0 : Fin 1) := by
        funext b; refine Fin.ext ?_
        match b with
        | ⟨0, _⟩ => rfl
        | ⟨1, _⟩ => rfl
      rw [hsi, hJ, StableHlo.Predicate.toInt_ofNat_small _ (by omega)]
      show min ((c.val : Int)).toNat (2047 - 1) = c.val
      omega
    show (gd K wf).start (ix3 t k e) J (1 : Fin 3) + 0 + (gd K wf).offCoord (ix3 t k e) (1 : Fin 3) = c.val
    rw [hs, ho]; omega
  | ⟨2, _⟩ =>
    have hs : (gd K wf).start (ix3 t k e) J (2 : Fin 3) = 0 := by
      unfold GatherDims.start
      rw [dif_neg (show ¬ (2 : Fin 3) ∈ ([1] : List (Fin 3)) by decide)]
    have ho : (gd K wf).offCoord (ix3 t k e) (2 : Fin 3) = e.val := rfl
    show (gd K wf).start (ix3 t k e) J (2 : Fin 3) + 0 + (gd K wf).offCoord (ix3 t k e) (2 : Fin 3) = e.val
    rw [hs, ho]; omega

theorem lands (wf) (I : IVec ⟨2, ![K, 1]⟩ 32) (t t' : Fin 16) (k : Fin K) (e e' : Fin 128) (p : ℕ) (hp : p < 2047) (n : Fin 2047)
    (hI : I (ix2 k (0 : Fin 1)) = BitVec.ofNat 32 p) :
    (sd K wf).resultIdx? (ix3 t k e) I = some (ix3 t' n e') ↔ t = t' ∧ e = e' ∧ p = n.val := by
  have w0 : (sd K wf).window (ix3 t k e) (0 : Fin 3) = t.val := rfl
  have w1 : (sd K wf).window (ix3 t k e) (1 : Fin 3) = 0 := rfl
  have w2 : (sd K wf).window (ix3 t k e) (2 : Fin 3) = e.val := rfl
  have s0 : (sd K wf).start (ix3 t k e) I (0 : Fin 3) = 0 := by
    unfold ScatterDims.start
    rw [dif_neg (show ¬ (0 : Fin 3) ∈ ([1] : List (Fin 3)) by decide)]
  have s2 : (sd K wf).start (ix3 t k e) I (2 : Fin 3) = 0 := by
    unfold ScatterDims.start
    rw [dif_neg (show ¬ (2 : Fin 3) ∈ ([1] : List (Fin 3)) by decide)]
  have s1 : (sd K wf).start (ix3 t k e) I (1 : Fin 3) = (p : Int) := by
    unfold ScatterDims.start
    rw [dif_pos (show (1 : Fin 3) ∈ (sd K wf).scatterDimsToOperandDims from List.mem_singleton.mpr rfl)]
    have hsi : (sd K wf).siIdx (ix3 t k e) ⟨List.idxOf (1 : Fin 3) (sd K wf).scatterDimsToOperandDims,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, hI, StableHlo.Predicate.toInt_ofNat_small _ (by omega)]
  have ht := t.isLt
  have he := e.isLt
  have hin : ∀ a, 0 ≤ (sd K wf).start (ix3 t k e) I a + (sd K wf).window (ix3 t k e) a ∧
      (sd K wf).start (ix3 t k e) I a + (sd K wf).window (ix3 t k e) a < (SY.size a : Int) := fun a => by
    match a with
    | ⟨0, _⟩ =>
      show 0 ≤ (sd K wf).start (ix3 t k e) I (0 : Fin 3) + (sd K wf).window (ix3 t k e) (0 : Fin 3) ∧
        (sd K wf).start (ix3 t k e) I (0 : Fin 3) + (sd K wf).window (ix3 t k e) (0 : Fin 3) < (16 : Int)
      rw [s0, w0]; omega
    | ⟨1, _⟩ =>
      show 0 ≤ (sd K wf).start (ix3 t k e) I (1 : Fin 3) + (sd K wf).window (ix3 t k e) (1 : Fin 3) ∧
        (sd K wf).start (ix3 t k e) I (1 : Fin 3) + (sd K wf).window (ix3 t k e) (1 : Fin 3) < (2047 : Int)
      rw [s1, w1]; omega
    | ⟨2, _⟩ =>
      show 0 ≤ (sd K wf).start (ix3 t k e) I (2 : Fin 3) + (sd K wf).window (ix3 t k e) (2 : Fin 3) ∧
        (sd K wf).start (ix3 t k e) I (2 : Fin 3) + (sd K wf).window (ix3 t k e) (2 : Fin 3) < (128 : Int)
      rw [s2, w2]; omega
  unfold ScatterDims.resultIdx?
  rw [dif_pos hin, Option.some.injEq]
  constructor
  · intro h
    have h0 := congrArg Fin.val (congrFun h (0 : Fin 3))
    have h1 := congrArg Fin.val (congrFun h (1 : Fin 3))
    have h2 := congrArg Fin.val (congrFun h (2 : Fin 3))
    change ((sd K wf).start (ix3 t k e) I (0 : Fin 3) + ((sd K wf).window (ix3 t k e) (0 : Fin 3) : Int)).toNat = t'.val at h0
    change ((sd K wf).start (ix3 t k e) I (1 : Fin 3) + ((sd K wf).window (ix3 t k e) (1 : Fin 3) : Int)).toNat = n.val at h1
    change ((sd K wf).start (ix3 t k e) I (2 : Fin 3) + ((sd K wf).window (ix3 t k e) (2 : Fin 3) : Int)).toNat = e'.val at h2
    rw [s0, w0] at h0
    rw [s1, w1] at h1
    rw [s2, w2] at h2
    exact ⟨Fin.ext (by omega), Fin.ext (by omega), by omega⟩
  · rintro ⟨rfl, rfl, hn⟩
    funext a
    refine Fin.ext ?_
    match a with
    | ⟨0, _⟩ =>
      show ((sd K wf).start (ix3 t k e) I (0 : Fin 3) + ((sd K wf).window (ix3 t k e) (0 : Fin 3) : Int)).toNat = t.val
      rw [s0, w0]; omega
    | ⟨1, _⟩ =>
      show ((sd K wf).start (ix3 t k e) I (1 : Fin 3) + ((sd K wf).window (ix3 t k e) (1 : Fin 3) : Int)).toNat = n.val
      rw [s1, w1]; omega
    | ⟨2, _⟩ =>
      show ((sd K wf).start (ix3 t k e) I (2 : Fin 3) + ((sd K wf).window (ix3 t k e) (2 : Fin 3) : Int)).toNat = e.val
      rw [s2, w2]; omega

/-- One level: at node `n`, the row before plus the rows of the children whose parent is `n`. -/
theorem step_apply (gwf) (swf) (y : FVec Ideal SY .f32) (I J : IVec ⟨2, ![K, 1]⟩ 32) (p c : Fin K → ℕ)
    (hp : ∀ k, p k < 2047) (hc : ∀ k, c k < 2047)
    (hI : ∀ k, I (ix2 k (0 : Fin 1)) = BitVec.ofNat 32 (p k)) (hJ : ∀ k, J (ix2 k (0 : Fin 1)) = BitVec.ofNat 32 (c k))
    (t : Fin 16) (n : Fin 2047) (e : Fin 128) :
    (Host.scatterAdd (sd K swf) y I (Host.gather (gd K gwf) y J) (ix3 t n e) : EReal) =
      (y (ix3 t n e) : EReal) + ∑ k ∈ Finset.univ.filter (fun k => p k = n.val), (y (ix3 t ⟨c k, hc k⟩ e) : EReal) := by
  show (y (ix3 t n e) : EReal) + ∑ j ∈ Finset.univ.filter (fun j => (sd K swf).resultIdx? j I = some (ix3 t n e)),
    (Host.gather (gd K gwf) y J j : EReal) = _
  refine congrArg _ ?_
  refine Finset.sum_nbij' (fun j => j 1) (fun k => ix3 t k e) ?_ ?_ ?_ ?_ ?_
  · intro j hj
    have h := (Finset.mem_filter.1 hj).2
    rw [eq_ix3 j] at h
    exact Finset.mem_filter.2 ⟨Finset.mem_univ _, ((lands swf I _ _ _ _ _ (p (j 1)) (hp _) n (hI _)).1 h).2.2⟩
  · intro k hk
    exact Finset.mem_filter.2 ⟨Finset.mem_univ _, (lands swf I _ _ _ _ _ (p k) (hp _) n (hI _)).2 ⟨rfl, rfl, (Finset.mem_filter.1 hk).2⟩⟩
  · intro j hj
    have h := (Finset.mem_filter.1 hj).2
    rw [eq_ix3 j] at h
    obtain ⟨h0, h2, -⟩ := (lands swf I _ _ _ _ _ (p (j 1)) (hp _) n (hI _)).1 h
    rw [eq_ix3 j, h0, h2]
    rfl
  · intro k _; rfl
  · intro j hj
    have h := (Finset.mem_filter.1 hj).2
    rw [eq_ix3 j] at h
    obtain ⟨h0, h2, -⟩ := (lands swf I _ _ _ _ _ (p (j 1)) (hp _) n (hI _)).1 h
    rw [eq_ix3 j, h0, h2]
    exact gather_level gwf y J t (j 1) e ⟨c (j 1), hc _⟩ (hJ _)

end Cert.Proof.RefStep

end
-- ==== Proof.TreeOp.lean ====
/-
  One tree of the TensorCore body as one expression (`tree`): the ten levels from the leaves to the root, each level the dense
  layer of its rows plus the two halves of the level below, and the running maximum over all levels. Each of the four results the
  body stores is `tree` of that tree's reads.
-/
module

public import proofs.«01_k».proof.Proof.TcRun

@[expose] public section

noncomputable section

namespace Cert.Proof.Run

open Cert.KernelIdeal Cert.KernelIdeal.Gen

open Idealize.ShloMosaic
open Idealize.ShloMosaic.TcCoe
open Idealize.SL.Sem

variable {F : FTy → Type} [FloatOps F]

/-- The shape of `n` rows of 128. -/
abbrev Rows (n : ℕ) : Shape := ⟨2, ![n, 128]⟩

/-- The dense layer on `n` rows: the rows times the matrix, plus the bias already spread over the rows. -/
def lin (n : ℕ) (w : FVec F S128x128 .bf16) (bb : FVec F (Rows n) .f32) (g : Vec F ⟨3, ![1, n, 128]⟩ .f32)
    (hs : (⟨3, ![1, n, 128]⟩ : Shape).ShapeCasts (Rows n)) : FVec F (Rows n) .f32 :=
  addf (matmul (DotDims.plain n 128 128) none (truncf .bf16 (shapeCast (Rows n) g hs) bitsLt_bf16_f32) w (constant (Rows n) .f32 0x00000000#32)) bb

/-- The two halves of `m = 2n` rows, added. -/
def halves (n m : ℕ) (x : FVec F (Rows m) .f32) (h0 : (Rows m).Slices ![0, 0] (Rows n)) (h1 : (Rows m).Slices ![n, 0] (Rows n)) :
    FVec F (Rows n) .f32 :=
  addf (extractStridedSlice (Rows n) ![0, 0] x h0) (extractStridedSlice (Rows n) ![n, 0] x h1)

/-- The running maximum of eight rows, taken on with the rows of a level of `8q` rows. -/
def mx8 (q n : ℕ) (m : FVec F S8x128 .f32) (x : FVec F (Rows n) .f32) (hc : (Rows n).ShapeCasts ⟨3, ![q, 8, 128]⟩)
    (hr : (⟨3, ![q, 8, 128]⟩ : Shape).Reduces [0] S8x128) : FVec F S8x128 .f32 :=
  maximumf m (multiReduction .maximumf [0] S8x128 (shapeCast ⟨3, ![q, 8, 128]⟩ x hc) 0xFF800000#32 hr (.inl rfl) rfl)

/-- The running maximum of eight rows, taken on with the one maximum over a level of few rows. -/
def mxs (n : ℕ) (m : FVec F S8x128 .f32) (x : FVec F (Rows n) .f32) (hr : (Rows n).Reduces [0] S128) : FVec F S8x128 .f32 :=
  maximumf m (broadcastTo S8x128 (shapeCast S1x128 (multiReduction .maximumf [0] S128 x 0xFF800000#32 hr (.inl rfl) rfl) shapeCasts_S128_S1x128)
    broadcasts_S1x128_S8x128)

/-- The maximum over the eight rows. -/
def mxo (m : FVec F S8x128 .f32) : FVec F S1x1x128 .f32 :=
  shapeCast S1x1x128 (shapeCast S1x128 (multiReduction .maximumf [0] S128 m 0xFF800000#32 reduces_S8x128_S128 (.inl rfl) rfl) shapeCasts_S128_S1x128)
    shapeCasts_S1x128_S1x1x128

variable (w : FVec F S128x128 .bf16) (b : FVec F S1x128 .f32)

/-- The level of height 0: the leaves. -/
def lv0 (g0 : Vec F S1x1024x128 .f32) : FVec F S1024x128 .f32 :=
  lin 1024 w (broadcastTo S1024x128 b broadcasts_S1x128_S1024x128) g0 shapeCasts_S1x1024x128_S1024x128

/-- The level of height 1: 512 rows. -/
def lv1 (g0 : Vec F S1x1024x128 .f32) (g1 : Vec F S1x512x128 .f32) : FVec F S512x128 .f32 :=
  addf (lin 512 w (broadcastTo S512x128 b broadcasts_S1x128_S512x128) g1 shapeCasts_S1x512x128_S512x128)
    (halves 512 1024 (lv0 w b g0) slices_S1024x128_o0_0_S512x128 slices_S1024x128_o512_0_S512x128)

/-- The level of height 2: 256 rows. -/
def lv2 (g0 : Vec F S1x1024x128 .f32) (g1 : Vec F S1x512x128 .f32) (g2 : Vec F S1x256x128 .f32) : FVec F S256x128 .f32 :=
  addf (lin 256 w (broadcastTo S256x128 b broadcasts_S1x128_S256x128) g2 shapeCasts_S1x256x128_S256x128)
    (halves 256 512 (lv1 w b g0 g1) slices_S512x128_o0_0_S256x128 slices_S512x128_o256_0_S256x128)

/-- The level of height 3: 128 rows. -/
def lv3 (g0 : Vec F S1x1024x128 .f32) (g1 : Vec F S1x512x128 .f32) (g2 : Vec F S1x256x128 .f32) (g3 : Vec F S1x128x128 .f32) : FVec F S128x128 .f32 :=
  addf (lin 128 w (broadcastTo S128x128 b broadcasts_S1x128_S128x128) g3 shapeCasts_S1x128x128_S128x128)
    (halves 128 256 (lv2 w b g0 g1 g2) slices_S256x128_o0_0_S128x128 slices_S256x128_o128_0_S128x128)

/-- The level of height 4: 64 rows. -/
def lv4 (g0 : Vec F S1x1024x128 .f32) (g1 : Vec F S1x512x128 .f32) (g2 : Vec F S1x256x128 .f32) (g3 : Vec F S1x128x128 .f32) (g4 : Vec F S1x64x128 .f32) : FVec F S64x128 .f32 :=
  addf (lin 64 w (broadcastTo S64x128 b broadcasts_S1x128_S64x128) g4 shapeCasts_S1x64x128_S64x128)
    (halves 64 128 (lv3 w b g0 g1 g2 g3) slices_S128x128_o0_0_S64x128 slices_S128x128_o64_0_S64x128)

/-- The level of height 5: 32 rows. -/
def lv5 (g0 : Vec F S1x1024x128 .f32) (g1 : Vec F S1x512x128 .f32) (g2 : Vec F S1x256x128 .f32) (g3 : Vec F S1x128x128 .f32) (g4 : Vec F S1x64x128 .f32) (g5 : Vec F S1x32x128 .f32) : FVec F S32x128 .f32 :=
  addf (lin 32 w (broadcastTo S32x128 b broadcasts_S1x128_S32x128) g5 shapeCasts_S1x32x128_S32x128)
    (halves 32 64 (lv4 w b g0 g1 g2 g3 g4) slices_S64x128_o0_0_S32x128 slices_S64x128_o32_0_S32x128)

/-- The level of height 6: 16 rows. -/
def lv6 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) : FVec F S16x128 .f32 :=
  addf (lin 16 w (broadcastTo S16x128 b broadcasts_S1x128_S16x128) g6 shapeCasts_S1x16x128_S16x128)
    (halves 16 32 (lv5 w b g0 g1 g2 g3 g4 g5) slices_S32x128_o0_0_S16x128 slices_S32x128_o16_0_S16x128)

/-- The level of height 7: 8 rows. -/
def lv7 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) : FVec F S8x128 .f32 :=
  addf (lin 8 w (broadcastTo S8x128 b broadcasts_S1x128_S8x128) g7 shapeCasts_S1x8x128_S8x128)
    (halves 8 16 (lv6 w b g0 g1 g2 g3 g4 g5 g6) slices_S16x128_o0_0_S8x128 slices_S16x128_o8_0_S8x128)

/-- The level of height 8: 4 rows. -/
def lv8 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) : FVec F S4x128 .f32 :=
  addf (lin 4 w (broadcastTo S4x128 b broadcasts_S1x128_S4x128) g8 shapeCasts_S1x4x128_S4x128)
    (halves 4 8 (lv7 w b g0 g1 g2 g3 g4 g5 g6 g7) slices_S8x128_o0_0_S4x128 slices_S8x128_o4_0_S4x128)

/-- The level of height 9: 2 rows. -/
def lv9 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) (g9 : Vec F S1x2x128 .f32) : FVec F S2x128 .f32 :=
  addf (lin 2 w (broadcastTo S2x128 b broadcasts_S1x128_S2x128) g9 shapeCasts_S1x2x128_S2x128)
    (halves 2 4 (lv8 w b g0 g1 g2 g3 g4 g5 g6 g7 g8) slices_S4x128_o0_0_S2x128 slices_S4x128_o2_0_S2x128)

/-- The level of height 10: 1 rows. -/
def lv10 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) (g9 : Vec F S1x2x128 .f32) (g10 : Vec F S1x1x128 .f32) : FVec F S1x128 .f32 :=
  addf (lin 1 w b g10 shapeCasts_S1x1x128_S1x128)
    (halves 1 2 (lv9 w b g0 g1 g2 g3 g4 g5 g6 g7 g8 g9) slices_S2x128_o0_0_S1x128 slices_S2x128_o1_0_S1x128)

/-- The running maximum after the level of height 0. -/
def mx_0 (g0 : Vec F S1x1024x128 .f32) : FVec F S8x128 .f32 :=
  mx8 128 1024 (broadcast S8x128 (Scalar.ofBits .f32 0xFF800000#32)) (lv0 w b g0) shapeCasts_S1024x128_S128x8x128 reduces_S128x8x128_S8x128

/-- The running maximum after the level of height 1. -/
def mx_1 (g0 : Vec F S1x1024x128 .f32) (g1 : Vec F S1x512x128 .f32) : FVec F S8x128 .f32 :=
  mx8 64 512 (mx_0 w b g0) (lv1 w b g0 g1) shapeCasts_S512x128_S64x8x128 reduces_S64x8x128_S8x128

/-- The running maximum after the level of height 2. -/
def mx_2 (g0 : Vec F S1x1024x128 .f32) (g1 : Vec F S1x512x128 .f32) (g2 : Vec F S1x256x128 .f32) : FVec F S8x128 .f32 :=
  mx8 32 256 (mx_1 w b g0 g1) (lv2 w b g0 g1 g2) shapeCasts_S256x128_S32x8x128 reduces_S32x8x128_S8x128

/-- The running maximum after the level of height 3. -/
def mx_3 (g0 : Vec F S1x1024x128 .f32) (g1 : Vec F S1x512x128 .f32) (g2 : Vec F S1x256x128 .f32) (g3 : Vec F S1x128x128 .f32) : FVec F S8x128 .f32 :=
  mx8 16 128 (mx_2 w b g0 g1 g2) (lv3 w b g0 g1 g2 g3) shapeCasts_S128x128_S16x8x128 reduces_S16x8x128_S8x128

/-- The running maximum after the level of height 4. -/
def mx_4 (g0 : Vec F S1x1024x128 .f32) (g1 : Vec F S1x512x128 .f32) (g2 : Vec F S1x256x128 .f32) (g3 : Vec F S1x128x128 .f32) (g4 : Vec F S1x64x128 .f32) : FVec F S8x128 .f32 :=
  mx8 8 64 (mx_3 w b g0 g1 g2 g3) (lv4 w b g0 g1 g2 g3 g4) shapeCasts_S64x128_S8x8x128 reduces_S8x8x128_S8x128

/-- The running maximum after the level of height 5. -/
def mx_5 (g0 : Vec F S1x1024x128 .f32) (g1 : Vec F S1x512x128 .f32) (g2 : Vec F S1x256x128 .f32) (g3 : Vec F S1x128x128 .f32) (g4 : Vec F S1x64x128 .f32) (g5 : Vec F S1x32x128 .f32) : FVec F S8x128 .f32 :=
  mx8 4 32 (mx_4 w b g0 g1 g2 g3 g4) (lv5 w b g0 g1 g2 g3 g4 g5) shapeCasts_S32x128_S4x8x128 reduces_S4x8x128_S8x128

/-- The running maximum after the level of height 6. -/
def mx_6 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) : FVec F S8x128 .f32 :=
  mx8 2 16 (mx_5 w b g0 g1 g2 g3 g4 g5) (lv6 w b g0 g1 g2 g3 g4 g5 g6) shapeCasts_S16x128_S2x8x128 reduces_S2x8x128_S8x128

/-- The running maximum after the level of height 7. -/
def mx_7 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) : FVec F S8x128 .f32 :=
  mx8 1 8 (mx_6 w b g0 g1 g2 g3 g4 g5 g6) (lv7 w b g0 g1 g2 g3 g4 g5 g6 g7) shapeCasts_S8x128_S1x8x128 reduces_S1x8x128_S8x128

/-- The running maximum after the level of height 8. -/
def mx_8 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) : FVec F S8x128 .f32 :=
  mxs 4 (mx_7 w b g0 g1 g2 g3 g4 g5 g6 g7) (lv8 w b g0 g1 g2 g3 g4 g5 g6 g7 g8) reduces_S4x128_S128

/-- The running maximum after the level of height 9. -/
def mx_9 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) (g9 : Vec F S1x2x128 .f32) : FVec F S8x128 .f32 :=
  mxs 2 (mx_8 w b g0 g1 g2 g3 g4 g5 g6 g7 g8) (lv9 w b g0 g1 g2 g3 g4 g5 g6 g7 g8 g9) reduces_S2x128_S128

/-- The running maximum after the level of height 10. -/
def mx_10 (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) (g9 : Vec F S1x2x128 .f32) (g10 : Vec F S1x1x128 .f32) : FVec F S8x128 .f32 :=
  mxs 1 (mx_9 w b g0 g1 g2 g3 g4 g5 g6 g7 g8 g9) (lv10 w b g0 g1 g2 g3 g4 g5 g6 g7 g8 g9 g10) reduces_S1x128_S128

/-- One tree: the maximum over all its nodes of the sums over their subtrees. -/
def tree (g0 : Vec F S1x1024x128 .f32) (g1 : Vec F S1x512x128 .f32) (g2 : Vec F S1x256x128 .f32) (g3 : Vec F S1x128x128 .f32) (g4 : Vec F S1x64x128 .f32) (g5 : Vec F S1x32x128 .f32) (g6 : Vec F S1x16x128 .f32) (g7 : Vec F S1x8x128 .f32) (g8 : Vec F S1x4x128 .f32) (g9 : Vec F S1x2x128 .f32) (g10 : Vec F S1x1x128 .f32) : FVec F S1x1x128 .f32 :=
  mxo (mx_10 w b g0 g1 g2 g3 g4 g5 g6 g7 g8 g9 g10)

/-! ## The four stored results -/

variable (c : Dev nD) (M0 : Memref sig .tc .vmem S4x2048x128 .f32) (M1 : Memref sig .tc .vmem S128x128 .f32) (M2 : Memref sig .tc .vmem S1x128 .f32)
  (f0 : Bf (F := F) c M0) (f1 : Bf (F := F) c M1) (f2 : Bf (F := F) c M2)

/-- Rows `n` to `2n - 1` of tree `t` of the block, read off the operand's buffer. -/
abbrev rd (t n : ℕ) (h : ∀ a : Fin 3, ![t, n, 0] a + (⟨3, ![1, n, 128]⟩ : Shape).size a ≤ S4x2048x128.size a) : Vec F ⟨3, ![1, n, 128]⟩ .f32 :=
  View.readAt (Elt F) M0.view (Rect.unit (s := S4x2048x128) ![t, n, 0] (⟨3, ![1, n, 128]⟩ : Shape).size h).toLoadRect f0

/-- Tree 0 of the block. -/
abbrev tree0 : FVec F S1x1x128 .f32 :=
  tree (tcRun.sl.r c M1 f1) (tcRun.sl.r_1 c M2 f2) (rd c M0 f0 0 1024 Gen.inb_S4x2048x128_S1x1024x128_0_1024_0) (rd c M0 f0 0 512 Gen.inb_S4x2048x128_S1x512x128_0_512_0) (rd c M0 f0 0 256 Gen.inb_S4x2048x128_S1x256x128_0_256_0) (rd c M0 f0 0 128 Gen.inb_S4x2048x128_S1x128x128_0_128_0) (rd c M0 f0 0 64 Gen.inb_S4x2048x128_S1x64x128_0_64_0) (rd c M0 f0 0 32 Gen.inb_S4x2048x128_S1x32x128_0_32_0) (rd c M0 f0 0 16 Gen.inb_S4x2048x128_S1x16x128_0_16_0) (rd c M0 f0 0 8 Gen.inb_S4x2048x128_S1x8x128_0_8_0) (rd c M0 f0 0 4 Gen.inb_S4x2048x128_S1x4x128_0_4_0) (rd c M0 f0 0 2 Gen.inb_S4x2048x128_S1x2x128_0_2_0) (rd c M0 f0 0 1 Gen.inb_S4x2048x128_S1x1x128_0_1_0)

/-- Tree 1 of the block. -/
abbrev tree1 : FVec F S1x1x128 .f32 :=
  tree (tcRun.sl.r c M1 f1) (tcRun.sl.r_1 c M2 f2) (rd c M0 f0 1 1024 Gen.inb_S4x2048x128_S1x1024x128_1_1024_0) (rd c M0 f0 1 512 Gen.inb_S4x2048x128_S1x512x128_1_512_0) (rd c M0 f0 1 256 Gen.inb_S4x2048x128_S1x256x128_1_256_0) (rd c M0 f0 1 128 Gen.inb_S4x2048x128_S1x128x128_1_128_0) (rd c M0 f0 1 64 Gen.inb_S4x2048x128_S1x64x128_1_64_0) (rd c M0 f0 1 32 Gen.inb_S4x2048x128_S1x32x128_1_32_0) (rd c M0 f0 1 16 Gen.inb_S4x2048x128_S1x16x128_1_16_0) (rd c M0 f0 1 8 Gen.inb_S4x2048x128_S1x8x128_1_8_0) (rd c M0 f0 1 4 Gen.inb_S4x2048x128_S1x4x128_1_4_0) (rd c M0 f0 1 2 Gen.inb_S4x2048x128_S1x2x128_1_2_0) (rd c M0 f0 1 1 Gen.inb_S4x2048x128_S1x1x128_1_1_0)

/-- Tree 2 of the block. -/
abbrev tree2 : FVec F S1x1x128 .f32 :=
  tree (tcRun.sl.r c M1 f1) (tcRun.sl.r_1 c M2 f2) (rd c M0 f0 2 1024 Gen.inb_S4x2048x128_S1x1024x128_2_1024_0) (rd c M0 f0 2 512 Gen.inb_S4x2048x128_S1x512x128_2_512_0) (rd c M0 f0 2 256 Gen.inb_S4x2048x128_S1x256x128_2_256_0) (rd c M0 f0 2 128 Gen.inb_S4x2048x128_S1x128x128_2_128_0) (rd c M0 f0 2 64 Gen.inb_S4x2048x128_S1x64x128_2_64_0) (rd c M0 f0 2 32 Gen.inb_S4x2048x128_S1x32x128_2_32_0) (rd c M0 f0 2 16 Gen.inb_S4x2048x128_S1x16x128_2_16_0) (rd c M0 f0 2 8 Gen.inb_S4x2048x128_S1x8x128_2_8_0) (rd c M0 f0 2 4 Gen.inb_S4x2048x128_S1x4x128_2_4_0) (rd c M0 f0 2 2 Gen.inb_S4x2048x128_S1x2x128_2_2_0) (rd c M0 f0 2 1 Gen.inb_S4x2048x128_S1x1x128_2_1_0)

/-- Tree 3 of the block. -/
abbrev tree3 : FVec F S1x1x128 .f32 :=
  tree (tcRun.sl.r c M1 f1) (tcRun.sl.r_1 c M2 f2) (rd c M0 f0 3 1024 Gen.inb_S4x2048x128_S1x1024x128_3_1024_0) (rd c M0 f0 3 512 Gen.inb_S4x2048x128_S1x512x128_3_512_0) (rd c M0 f0 3 256 Gen.inb_S4x2048x128_S1x256x128_3_256_0) (rd c M0 f0 3 128 Gen.inb_S4x2048x128_S1x128x128_3_128_0) (rd c M0 f0 3 64 Gen.inb_S4x2048x128_S1x64x128_3_64_0) (rd c M0 f0 3 32 Gen.inb_S4x2048x128_S1x32x128_3_32_0) (rd c M0 f0 3 16 Gen.inb_S4x2048x128_S1x16x128_3_16_0) (rd c M0 f0 3 8 Gen.inb_S4x2048x128_S1x8x128_3_8_0) (rd c M0 f0 3 4 Gen.inb_S4x2048x128_S1x4x128_3_4_0) (rd c M0 f0 3 2 Gen.inb_S4x2048x128_S1x2x128_3_2_0) (rd c M0 f0 3 1 Gen.inb_S4x2048x128_S1x1x128_3_1_0)

/-- What the body leaves in the result's buffer: the four trees, stored one after another. -/
theorem H3_4_eq : tcRun.sl.H3_4 (F := F) c M0 M1 M2 f0 f1 f2 =
    [⟨Rect.unit ![3, 0, 0] S1x1x128.size Gen.inb_S4x1x128_S1x1x128_3_0_0, tree3 c M0 M1 M2 f0 f1 f2⟩,
     ⟨Rect.unit ![2, 0, 0] S1x1x128.size Gen.inb_S4x1x128_S1x1x128_2_0_0, tree2 c M0 M1 M2 f0 f1 f2⟩,
     ⟨Rect.unit ![1, 0, 0] S1x1x128.size Gen.inb_S4x1x128_S1x1x128_1_0_0, tree1 c M0 M1 M2 f0 f1 f2⟩,
     ⟨Rect.unit ![0, 0, 0] S1x1x128.size Gen.inb_S4x1x128_S1x1x128_0_0_0, tree0 c M0 M1 M2 f0 f1 f2⟩] := rfl

end Cert.Proof.Run
-- ==== Proof.TreeLe.lean ====
/-
  What one tree comes to at the ideal values: it is at most `c` exactly when the sum over the subtree of every node is.
-/
module

public import proofs.«01_k».proof.Proof.TreeOp
public import Idealize.ShloMosaic.Lib.MatmulPlain
public import Idealize.ShloMosaic.Lib.ValueLayout
public import Idealize.ShloMosaic.PureOps.Ideal.Laws

@[expose] public section

noncomputable section

namespace Cert.Proof.Run

open Cert.KernelIdeal Cert.KernelIdeal.Gen

open Idealize.ShloMosaic Idealize.ShloMosaic.ValueIdx
open Idealize.ShloMosaic.TcCoe
open Idealize.SL.Sem

/-- The word the maxima start from is the bottom. -/
theorem ofBits_ninf : (FloatOps.ofBits .f32 0xFF800000#32 : Ideal .f32) = (⊥ : EReal) := by
  show Ideal.ofBits .f32 0xFF800000#32 = ⊥
  simp [Ideal.ofBits, Ideal.ieee]

/-! ## The operations read at an element -/

theorem lin_apply (n : ℕ) (w : FVec Ideal S128x128 .bf16) (bb : FVec Ideal (Rows n) .f32) (g : Vec Ideal ⟨3, ![1, n, 128]⟩ .f32)
    (hs : (⟨3, ![1, n, 128]⟩ : Shape).ShapeCasts (Rows n)) (r : Fin n) (e : Fin 128) :
    (lin n w bb g hs (ix2 r e) : EReal) = (∑ k : Fin 128, (g (ix3 (0 : Fin 1) r k) : EReal) * w (ix2 k e)) + bb (ix2 r e) := by
  show (FloatOps.matmul (DotDims.plain n 128 128) none (truncf .bf16 (shapeCast (Rows n) g hs) bitsLt_bf16_f32) w
    (constant (Rows n) .f32 0x00000000#32) (ix2 r e) : EReal) + bb (ix2 r e) = _
  refine congrArg (· + (bb (ix2 r e) : EReal)) ?_
  refine (Ideal.matmul_plain_apply none _ w _ r e).trans ?_
  rw [show (constant (Rows n) .f32 0x00000000#32 : FVec Ideal (Rows n) .f32) (ix2 r e) = (0 : EReal) from Ideal.ofBits_zero_f32, zero_add]
  refine Finset.sum_congr rfl fun k _ => congrArg (· * (w (ix2 k e) : EReal)) ?_
  exact shapeCast_1ab_ab_apply g hs r k

theorem halves_apply (n m : ℕ) (hm : m = n + n) (x : FVec Ideal (Rows m) .f32) (h0 : (Rows m).Slices ![0, 0] (Rows n))
    (h1 : (Rows m).Slices ![n, 0] (Rows n)) (r : Fin n) (e : Fin 128) :
    (halves n m x h0 h1 (ix2 r e) : EReal)
      = (x (ix2 (⟨r.val, by omega⟩ : Fin m) e) : EReal) + x (ix2 (⟨n + r.val, by omega⟩ : Fin m) e) := by
  refine congrArg₂ (fun a b : EReal => a + b) (extractStridedSlice_apply _ x h0 _ _ fun a => ?_) (extractStridedSlice_apply _ x h1 _ _ fun a => ?_)
  · match a with
    | ⟨0, _⟩ => exact (Nat.zero_add _).symm
    | ⟨1, _⟩ => exact (Nat.zero_add _).symm
  · match a with
    | ⟨0, _⟩ => rfl
    | ⟨1, _⟩ => exact (Nat.zero_add _).symm

/-- A maximum over the leading axis is at most `c` exactly when every entry is. -/
theorem red_le {s t : Shape} {a : Fin s.rank} (x : FVec Ideal s .f32) (h : s.Reduces [a] t) (j : t.Idx) (c : EReal) :
    (multiReduction .maximumf [a] t x 0xFF800000#32 h (.inl rfl) rfl j : EReal) ≤ c ↔ ∀ k : Fin (s.size a), (x (h.lift j k) : EReal) ≤ c := by
  refine (iff_of_eq (congrArg (fun v : EReal => v ≤ c) (Ideal.multiReduction_maximumf_single x 0xFF800000#32 h (.inl rfl) rfl j))).trans ?_
  refine (Finset.fold_max_le (α := Fin (s.size a)) (β := EReal) c).trans ?_
  rw [ofBits_ninf]
  simp only [bot_le, true_and, Finset.mem_univ, forall_const, Function.comp]

theorem lift_23 {q : ℕ} (hr : (⟨3, ![q, 8, 128]⟩ : Shape).Reduces [0] S8x128) (s : Fin 8) (e : Fin 128) (k : Fin q) :
    hr.lift (ix2 s e) k = ix3 k s e := by
  funext a
  match a with
  | ⟨0, _⟩ => rfl
  | ⟨1, _⟩ => rfl
  | ⟨2, _⟩ => rfl

theorem lift_12 {n : ℕ} (hr : (Rows n).Reduces [0] S128) (e : Fin 128) (k : Fin n) : hr.lift (ix1 e) k = ix2 k e := by
  funext a
  match a with
  | ⟨0, _⟩ => rfl
  | ⟨1, _⟩ => rfl

theorem mx8_le (q n : ℕ) (hn : n = q * 8) (m : FVec Ideal S8x128 .f32) (x : FVec Ideal (Rows n) .f32) (hc : (Rows n).ShapeCasts ⟨3, ![q, 8, 128]⟩)
    (hr : (⟨3, ![q, 8, 128]⟩ : Shape).Reduces [0] S8x128) (e : Fin 128) (c : EReal) :
    (∀ s : Fin 8, (mx8 q n m x hc hr (ix2 s e) : EReal) ≤ c) ↔ (∀ s : Fin 8, (m (ix2 s e) : EReal) ≤ c) ∧ ∀ r : Fin n, (x (ix2 r e) : EReal) ≤ c := by
  have key : ∀ (s : Fin 8) (k : Fin q) (r : Fin n), r.val = k.val * 8 + s.val → shapeCast ⟨3, ![q, 8, 128]⟩ x hc (ix3 k s e) = x (ix2 r e) := fun s k r h =>
    shapeCast_apply x hc _ _ (by
      rw [Shape.rowMajor_val_three, Shape.rowMajor_val_two]
      show r.val * 128 + e.val = (k.val * 8 + s.val) * 128 + e.val
      rw [h])
  have hs : ∀ s : Fin 8, ((mx8 q n m x hc hr (ix2 s e) : EReal) ≤ c) ↔ (m (ix2 s e) : EReal) ≤ c ∧ ∀ k : Fin q, (shapeCast ⟨3, ![q, 8, 128]⟩ x hc (ix3 k s e) : EReal) ≤ c := fun s => by
    refine (max_le_iff (α := EReal)).trans (and_congr_right' ?_)
    refine (red_le _ hr (ix2 s e) c).trans (forall_congr' fun k => ?_)
    rw [lift_23 hr s e k]
  simp only [hs, forall_and]
  refine and_congr_right' ⟨fun h r => ?_, fun h s k => ?_⟩
  · rw [← key ⟨r.val % 8, by omega⟩ ⟨r.val / 8, by omega⟩ r (by show r.val = r.val / 8 * 8 + r.val % 8; omega)]
    exact h _ _
  · rw [key s k ⟨k.val * 8 + s.val, by omega⟩ rfl]
    exact h _

theorem mxs_le (n : ℕ) (m : FVec Ideal S8x128 .f32) (x : FVec Ideal (Rows n) .f32) (hr : (Rows n).Reduces [0] S128) (e : Fin 128) (c : EReal) :
    (∀ s : Fin 8, (mxs n m x hr (ix2 s e) : EReal) ≤ c) ↔ (∀ s : Fin 8, (m (ix2 s e) : EReal) ≤ c) ∧ ∀ r : Fin n, (x (ix2 r e) : EReal) ≤ c := by
  have hs : ∀ s : Fin 8, ((mxs n m x hr (ix2 s e) : EReal) ≤ c) ↔ (m (ix2 s e) : EReal) ≤ c ∧ ∀ r : Fin n, (x (ix2 r e) : EReal) ≤ c := fun s => by
    refine (max_le_iff (α := EReal)).trans (and_congr_right' ?_)
    rw [broadcastTo_1b_ab_apply _ broadcasts_S1x128_S8x128 s e, shapeCast_a_1a_apply]
    refine (red_le _ hr (ix1 e) c).trans (forall_congr' fun k => ?_)
    rw [lift_12 hr e k]
  simp only [hs, forall_and]
  exact and_congr_right' ⟨fun h => h 0, fun h _ => h⟩

theorem mxo_le (m : FVec Ideal S8x128 .f32) (e : Fin 128) (c : EReal) :
    (mxo m (ix3 (0 : Fin 1) (0 : Fin 1) e) : EReal) ≤ c ↔ ∀ s : Fin 8, (m (ix2 s e) : EReal) ≤ c := by
  unfold mxo
  rw [shapeCast_ab_1ab_apply, shapeCast_a_1a_apply]
  refine (red_le _ reduces_S8x128_S128 (ix1 e) c).trans (forall_congr' fun k => ?_)
  rw [lift_12 reduces_S8x128_S128 e k]

/-! ## The tree -/

/-- A node's own value: its row through the dense layer. -/
def xq (w : FVec Ideal S128x128 .bf16) (b : FVec Ideal S1x128 .f32) (G : ℕ → Fin 128 → EReal) (e : Fin 128) (q : ℕ) : EReal :=
  (∑ k : Fin 128, G q k * w (ix2 k e)) + b (ix2 (0 : Fin 1) e)

/-- The sum over the subtree of the node at position `q`, of height `h`: its two children stand at `q + 2 ^ l` and `q + 2 * 2 ^ l`,
    `l` its level. -/
def Kp (x : ℕ → EReal) : ℕ → ℕ → EReal
  | 0, q => x q
  | h + 1, q => x q + (Kp x h (q + 2 ^ (9 - h)) + Kp x h (q + 2 * 2 ^ (9 - h)))

/-- At every height, the sum over the subtree of every node is at most `c`. -/
def NodesLe (x : ℕ → EReal) (c : EReal) : Prop :=
  (∀ r : Fin 1024, Kp x 0 (1024 + r.val) ≤ c) ∧
  (∀ r : Fin 512, Kp x 1 (512 + r.val) ≤ c) ∧
  (∀ r : Fin 256, Kp x 2 (256 + r.val) ≤ c) ∧
  (∀ r : Fin 128, Kp x 3 (128 + r.val) ≤ c) ∧
  (∀ r : Fin 64, Kp x 4 (64 + r.val) ≤ c) ∧
  (∀ r : Fin 32, Kp x 5 (32 + r.val) ≤ c) ∧
  (∀ r : Fin 16, Kp x 6 (16 + r.val) ≤ c) ∧
  (∀ r : Fin 8, Kp x 7 (8 + r.val) ≤ c) ∧
  (∀ r : Fin 4, Kp x 8 (4 + r.val) ≤ c) ∧
  (∀ r : Fin 2, Kp x 9 (2 + r.val) ≤ c) ∧
  (∀ r : Fin 1, Kp x 10 (1 + r.val) ≤ c)

variable (w : FVec Ideal S128x128 .bf16) (b : FVec Ideal S1x128 .f32) (G : ℕ → Fin 128 → EReal)

theorem lin_val (n : ℕ) (bb : FVec Ideal (Rows n) .f32) (hb : ∀ (r : Fin n) (e : Fin 128), bb (ix2 r e) = b (ix2 (0 : Fin 1) e))
    (g : Vec Ideal ⟨3, ![1, n, 128]⟩ .f32) (hs : (⟨3, ![1, n, 128]⟩ : Shape).ShapeCasts (Rows n))
    (hg : ∀ (r : Fin n) (k : Fin 128), g (ix3 (0 : Fin 1) r k) = G (n + r.val) k) (r : Fin n) (e : Fin 128) :
    (lin n w bb g hs (ix2 r e) : EReal) = xq w b G e (n + r.val) := by
  rw [lin_apply, hb r e]
  unfold xq
  exact congrArg (· + (b (ix2 (0 : Fin 1) e) : EReal)) (Finset.sum_congr rfl fun k _ => congrArg (· * (w (ix2 k e) : EReal)) (hg r k))

theorem step_val (h n m : ℕ) (hn : n = 2 ^ (9 - h)) (hm : m = n + n) (bb : FVec Ideal (Rows n) .f32) (hb : ∀ (r : Fin n) (e : Fin 128), bb (ix2 r e) = b (ix2 (0 : Fin 1) e))
    (g : Vec Ideal ⟨3, ![1, n, 128]⟩ .f32) (hs : (⟨3, ![1, n, 128]⟩ : Shape).ShapeCasts (Rows n))
    (hg : ∀ (r : Fin n) (k : Fin 128), g (ix3 (0 : Fin 1) r k) = G (n + r.val) k)
    (x : FVec Ideal (Rows m) .f32) (h0 : (Rows m).Slices ![0, 0] (Rows n)) (h1 : (Rows m).Slices ![n, 0] (Rows n))
    (hx : ∀ (r : Fin m) (e : Fin 128), (x (ix2 r e) : EReal) = Kp (xq w b G e) h (m + r.val)) (r : Fin n) (e : Fin 128) :
    (addf (lin n w bb g hs) (halves n m x h0 h1) (ix2 r e) : EReal) = Kp (xq w b G e) (h + 1) (n + r.val) := by
  show (lin n w bb g hs (ix2 r e) : EReal) + halves n m x h0 h1 (ix2 r e) = xq w b G e (n + r.val) + (_ + _)
  rw [lin_val w b G n bb hb g hs hg, halves_apply n m hm, hx, hx]
  refine congrArg₂ (fun u v : EReal => xq w b G e (n + r.val) + (u + v)) (congrArg _ ?_) (congrArg _ ?_)
  · show m + r.val = n + r.val + 2 ^ (9 - h); omega
  · show m + (n + r.val) = n + r.val + 2 * 2 ^ (9 - h); omega

variable (g0 : Vec Ideal S1x1024x128 .f32) (g1 : Vec Ideal S1x512x128 .f32) (g2 : Vec Ideal S1x256x128 .f32) (g3 : Vec Ideal S1x128x128 .f32) (g4 : Vec Ideal S1x64x128 .f32) (g5 : Vec Ideal S1x32x128 .f32) (g6 : Vec Ideal S1x16x128 .f32) (g7 : Vec Ideal S1x8x128 .f32) (g8 : Vec Ideal S1x4x128 .f32) (g9 : Vec Ideal S1x2x128 .f32) (g10 : Vec Ideal S1x1x128 .f32)
  (h0 : ∀ (r : Fin 1024) (k : Fin 128), g0 (ix3 (0 : Fin 1) r k) = G (1024 + r.val) k)
  (h1 : ∀ (r : Fin 512) (k : Fin 128), g1 (ix3 (0 : Fin 1) r k) = G (512 + r.val) k)
  (h2 : ∀ (r : Fin 256) (k : Fin 128), g2 (ix3 (0 : Fin 1) r k) = G (256 + r.val) k)
  (h3 : ∀ (r : Fin 128) (k : Fin 128), g3 (ix3 (0 : Fin 1) r k) = G (128 + r.val) k)
  (h4 : ∀ (r : Fin 64) (k : Fin 128), g4 (ix3 (0 : Fin 1) r k) = G (64 + r.val) k)
  (h5 : ∀ (r : Fin 32) (k : Fin 128), g5 (ix3 (0 : Fin 1) r k) = G (32 + r.val) k)
  (h6 : ∀ (r : Fin 16) (k : Fin 128), g6 (ix3 (0 : Fin 1) r k) = G (16 + r.val) k)
  (h7 : ∀ (r : Fin 8) (k : Fin 128), g7 (ix3 (0 : Fin 1) r k) = G (8 + r.val) k)
  (h8 : ∀ (r : Fin 4) (k : Fin 128), g8 (ix3 (0 : Fin 1) r k) = G (4 + r.val) k)
  (h9 : ∀ (r : Fin 2) (k : Fin 128), g9 (ix3 (0 : Fin 1) r k) = G (2 + r.val) k)
  (h10 : ∀ (r : Fin 1) (k : Fin 128), g10 (ix3 (0 : Fin 1) r k) = G (1 + r.val) k)

include h0 in
theorem lv0_val (r : Fin 1024) (e : Fin 128) : (lv0 w b g0 (ix2 r e) : EReal) = Kp (xq w b G e) 0 (1024 + r.val) :=
  lin_val w b G 1024 _ (fun r e => broadcastTo_1b_ab_apply b broadcasts_S1x128_S1024x128 r e) g0 shapeCasts_S1x1024x128_S1024x128 h0 r e

include h0 h1 in
theorem lv1_val (r : Fin 512) (e : Fin 128) : (lv1 w b g0 g1 (ix2 r e) : EReal) = Kp (xq w b G e) 1 (512 + r.val) :=
  step_val w b G 0 512 1024 rfl rfl _ (fun r e => broadcastTo_1b_ab_apply b broadcasts_S1x128_S512x128 r e) g1 shapeCasts_S1x512x128_S512x128 h1 (lv0 w b g0)
    slices_S1024x128_o0_0_S512x128 slices_S1024x128_o512_0_S512x128 (lv0_val w b G g0 h0) r e

include h0 h1 h2 in
theorem lv2_val (r : Fin 256) (e : Fin 128) : (lv2 w b g0 g1 g2 (ix2 r e) : EReal) = Kp (xq w b G e) 2 (256 + r.val) :=
  step_val w b G 1 256 512 rfl rfl _ (fun r e => broadcastTo_1b_ab_apply b broadcasts_S1x128_S256x128 r e) g2 shapeCasts_S1x256x128_S256x128 h2 (lv1 w b g0 g1)
    slices_S512x128_o0_0_S256x128 slices_S512x128_o256_0_S256x128 (lv1_val w b G g0 g1 h0 h1) r e

include h0 h1 h2 h3 in
theorem lv3_val (r : Fin 128) (e : Fin 128) : (lv3 w b g0 g1 g2 g3 (ix2 r e) : EReal) = Kp (xq w b G e) 3 (128 + r.val) :=
  step_val w b G 2 128 256 rfl rfl _ (fun r e => broadcastTo_1b_ab_apply b broadcasts_S1x128_S128x128 r e) g3 shapeCasts_S1x128x128_S128x128 h3 (lv2 w b g0 g1 g2)
    slices_S256x128_o0_0_S128x128 slices_S256x128_o128_0_S128x128 (lv2_val w b G g0 g1 g2 h0 h1 h2) r e

include h0 h1 h2 h3 h4 in
theorem lv4_val (r : Fin 64) (e : Fin 128) : (lv4 w b g0 g1 g2 g3 g4 (ix2 r e) : EReal) = Kp (xq w b G e) 4 (64 + r.val) :=
  step_val w b G 3 64 128 rfl rfl _ (fun r e => broadcastTo_1b_ab_apply b broadcasts_S1x128_S64x128 r e) g4 shapeCasts_S1x64x128_S64x128 h4 (lv3 w b g0 g1 g2 g3)
    slices_S128x128_o0_0_S64x128 slices_S128x128_o64_0_S64x128 (lv3_val w b G g0 g1 g2 g3 h0 h1 h2 h3) r e

include h0 h1 h2 h3 h4 h5 in
theorem lv5_val (r : Fin 32) (e : Fin 128) : (lv5 w b g0 g1 g2 g3 g4 g5 (ix2 r e) : EReal) = Kp (xq w b G e) 5 (32 + r.val) :=
  step_val w b G 4 32 64 rfl rfl _ (fun r e => broadcastTo_1b_ab_apply b broadcasts_S1x128_S32x128 r e) g5 shapeCasts_S1x32x128_S32x128 h5 (lv4 w b g0 g1 g2 g3 g4)
    slices_S64x128_o0_0_S32x128 slices_S64x128_o32_0_S32x128 (lv4_val w b G g0 g1 g2 g3 g4 h0 h1 h2 h3 h4) r e

include h0 h1 h2 h3 h4 h5 h6 in
theorem lv6_val (r : Fin 16) (e : Fin 128) : (lv6 w b g0 g1 g2 g3 g4 g5 g6 (ix2 r e) : EReal) = Kp (xq w b G e) 6 (16 + r.val) :=
  step_val w b G 5 16 32 rfl rfl _ (fun r e => broadcastTo_1b_ab_apply b broadcasts_S1x128_S16x128 r e) g6 shapeCasts_S1x16x128_S16x128 h6 (lv5 w b g0 g1 g2 g3 g4 g5)
    slices_S32x128_o0_0_S16x128 slices_S32x128_o16_0_S16x128 (lv5_val w b G g0 g1 g2 g3 g4 g5 h0 h1 h2 h3 h4 h5) r e

include h0 h1 h2 h3 h4 h5 h6 h7 in
theorem lv7_val (r : Fin 8) (e : Fin 128) : (lv7 w b g0 g1 g2 g3 g4 g5 g6 g7 (ix2 r e) : EReal) = Kp (xq w b G e) 7 (8 + r.val) :=
  step_val w b G 6 8 16 rfl rfl _ (fun r e => broadcastTo_1b_ab_apply b broadcasts_S1x128_S8x128 r e) g7 shapeCasts_S1x8x128_S8x128 h7 (lv6 w b g0 g1 g2 g3 g4 g5 g6)
    slices_S16x128_o0_0_S8x128 slices_S16x128_o8_0_S8x128 (lv6_val w b G g0 g1 g2 g3 g4 g5 g6 h0 h1 h2 h3 h4 h5 h6) r e

include h0 h1 h2 h3 h4 h5 h6 h7 h8 in
theorem lv8_val (r : Fin 4) (e : Fin 128) : (lv8 w b g0 g1 g2 g3 g4 g5 g6 g7 g8 (ix2 r e) : EReal) = Kp (xq w b G e) 8 (4 + r.val) :=
  step_val w b G 7 4 8 rfl rfl _ (fun r e => broadcastTo_1b_ab_apply b broadcasts_S1x128_S4x128 r e) g8 shapeCasts_S1x4x128_S4x128 h8 (lv7 w b g0 g1 g2 g3 g4 g5 g6 g7)
    slices_S8x128_o0_0_S4x128 slices_S8x128_o4_0_S4x128 (lv7_val w b G g0 g1 g2 g3 g4 g5 g6 g7 h0 h1 h2 h3 h4 h5 h6 h7) r e

include h0 h1 h2 h3 h4 h5 h6 h7 h8 h9 in
theorem lv9_val (r : Fin 2) (e : Fin 128) : (lv9 w b g0 g1 g2 g3 g4 g5 g6 g7 g8 g9 (ix2 r e) : EReal) = Kp (xq w b G e) 9 (2 + r.val) :=
  step_val w b G 8 2 4 rfl rfl _ (fun r e => broadcastTo_1b_ab_apply b broadcasts_S1x128_S2x128 r e) g9 shapeCasts_S1x2x128_S2x128 h9 (lv8 w b g0 g1 g2 g3 g4 g5 g6 g7 g8)
    slices_S4x128_o0_0_S2x128 slices_S4x128_o2_0_S2x128 (lv8_val w b G g0 g1 g2 g3 g4 g5 g6 g7 g8 h0 h1 h2 h3 h4 h5 h6 h7 h8) r e

include h0 h1 h2 h3 h4 h5 h6 h7 h8 h9 h10 in
theorem lv10_val (r : Fin 1) (e : Fin 128) : (lv10 w b g0 g1 g2 g3 g4 g5 g6 g7 g8 g9 g10 (ix2 r e) : EReal) = Kp (xq w b G e) 10 (1 + r.val) :=
  step_val w b G 9 1 2 rfl rfl _ (fun r e => congrArg (fun r : Fin 1 => b (ix2 r e)) (Subsingleton.elim r 0)) g10 shapeCasts_S1x1x128_S1x128 h10 (lv9 w b g0 g1 g2 g3 g4 g5 g6 g7 g8 g9)
    slices_S2x128_o0_0_S1x128 slices_S2x128_o1_0_S1x128 (lv9_val w b G g0 g1 g2 g3 g4 g5 g6 g7 g8 g9 h0 h1 h2 h3 h4 h5 h6 h7 h8 h9) r e

include h0 h1 h2 h3 h4 h5 h6 h7 h8 h9 h10 in
/-- A tree is at most `c` exactly when, at every height, the sum over the subtree of every node is. -/
theorem tree_le (e : Fin 128) (c : EReal) : (tree w b g0 g1 g2 g3 g4 g5 g6 g7 g8 g9 g10 (ix3 (0 : Fin 1) (0 : Fin 1) e) : EReal) ≤ c ↔ NodesLe (xq w b G e) c := by
  unfold tree NodesLe
  rw [mxo_le]
  unfold mx_10
  rw [mxs_le]
  unfold mx_9
  rw [mxs_le]
  unfold mx_8
  rw [mxs_le]
  unfold mx_7
  rw [mx8_le 1 8 rfl]
  unfold mx_6
  rw [mx8_le 2 16 rfl]
  unfold mx_5
  rw [mx8_le 4 32 rfl]
  unfold mx_4
  rw [mx8_le 8 64 rfl]
  unfold mx_3
  rw [mx8_le 16 128 rfl]
  unfold mx_2
  rw [mx8_le 32 256 rfl]
  unfold mx_1
  rw [mx8_le 64 512 rfl]
  unfold mx_0
  rw [mx8_le 128 1024 rfl]
  have hbot : (∀ s : Fin 8, ((broadcast S8x128 (Scalar.ofBits .f32 0xFF800000#32) : FVec Ideal S8x128 .f32) (ix2 s e) : EReal) ≤ c) ↔ True :=
    iff_true_intro fun s => (le_of_eq ofBits_ninf).trans bot_le
  have e0 : (∀ r : Fin 1024, (lv0 w b g0 (ix2 r e) : EReal) ≤ c) ↔ ∀ r : Fin 1024, Kp (xq w b G e) 0 (1024 + r.val) ≤ c :=
    forall_congr' fun r => by rw [lv0_val w b G g0 h0 r e]
  have e1 : (∀ r : Fin 512, (lv1 w b g0 g1 (ix2 r e) : EReal) ≤ c) ↔ ∀ r : Fin 512, Kp (xq w b G e) 1 (512 + r.val) ≤ c :=
    forall_congr' fun r => by rw [lv1_val w b G g0 g1 h0 h1 r e]
  have e2 : (∀ r : Fin 256, (lv2 w b g0 g1 g2 (ix2 r e) : EReal) ≤ c) ↔ ∀ r : Fin 256, Kp (xq w b G e) 2 (256 + r.val) ≤ c :=
    forall_congr' fun r => by rw [lv2_val w b G g0 g1 g2 h0 h1 h2 r e]
  have e3 : (∀ r : Fin 128, (lv3 w b g0 g1 g2 g3 (ix2 r e) : EReal) ≤ c) ↔ ∀ r : Fin 128, Kp (xq w b G e) 3 (128 + r.val) ≤ c :=
    forall_congr' fun r => by rw [lv3_val w b G g0 g1 g2 g3 h0 h1 h2 h3 r e]
  have e4 : (∀ r : Fin 64, (lv4 w b g0 g1 g2 g3 g4 (ix2 r e) : EReal) ≤ c) ↔ ∀ r : Fin 64, Kp (xq w b G e) 4 (64 + r.val) ≤ c :=
    forall_congr' fun r => by rw [lv4_val w b G g0 g1 g2 g3 g4 h0 h1 h2 h3 h4 r e]
  have e5 : (∀ r : Fin 32, (lv5 w b g0 g1 g2 g3 g4 g5 (ix2 r e) : EReal) ≤ c) ↔ ∀ r : Fin 32, Kp (xq w b G e) 5 (32 + r.val) ≤ c :=
    forall_congr' fun r => by rw [lv5_val w b G g0 g1 g2 g3 g4 g5 h0 h1 h2 h3 h4 h5 r e]
  have e6 : (∀ r : Fin 16, (lv6 w b g0 g1 g2 g3 g4 g5 g6 (ix2 r e) : EReal) ≤ c) ↔ ∀ r : Fin 16, Kp (xq w b G e) 6 (16 + r.val) ≤ c :=
    forall_congr' fun r => by rw [lv6_val w b G g0 g1 g2 g3 g4 g5 g6 h0 h1 h2 h3 h4 h5 h6 r e]
  have e7 : (∀ r : Fin 8, (lv7 w b g0 g1 g2 g3 g4 g5 g6 g7 (ix2 r e) : EReal) ≤ c) ↔ ∀ r : Fin 8, Kp (xq w b G e) 7 (8 + r.val) ≤ c :=
    forall_congr' fun r => by rw [lv7_val w b G g0 g1 g2 g3 g4 g5 g6 g7 h0 h1 h2 h3 h4 h5 h6 h7 r e]
  have e8 : (∀ r : Fin 4, (lv8 w b g0 g1 g2 g3 g4 g5 g6 g7 g8 (ix2 r e) : EReal) ≤ c) ↔ ∀ r : Fin 4, Kp (xq w b G e) 8 (4 + r.val) ≤ c :=
    forall_congr' fun r => by rw [lv8_val w b G g0 g1 g2 g3 g4 g5 g6 g7 g8 h0 h1 h2 h3 h4 h5 h6 h7 h8 r e]
  have e9 : (∀ r : Fin 2, (lv9 w b g0 g1 g2 g3 g4 g5 g6 g7 g8 g9 (ix2 r e) : EReal) ≤ c) ↔ ∀ r : Fin 2, Kp (xq w b G e) 9 (2 + r.val) ≤ c :=
    forall_congr' fun r => by rw [lv9_val w b G g0 g1 g2 g3 g4 g5 g6 g7 g8 g9 h0 h1 h2 h3 h4 h5 h6 h7 h8 h9 r e]
  have e10 : (∀ r : Fin 1, (lv10 w b g0 g1 g2 g3 g4 g5 g6 g7 g8 g9 g10 (ix2 r e) : EReal) ≤ c) ↔ ∀ r : Fin 1, Kp (xq w b G e) 10 (1 + r.val) ≤ c :=
    forall_congr' fun r => by rw [lv10_val w b G g0 g1 g2 g3 g4 g5 g6 g7 g8 g9 g10 h0 h1 h2 h3 h4 h5 h6 h7 h8 h9 h10 r e]
  rw [hbot, true_and, e0, e1, e2, e3, e4, e5, e6, e7, e8, e9, e10]
  simp only [and_assoc]

end Cert.Proof.Run
-- ==== Proof.Nodes.lean ====
/-
  A tree's sums by node and by position. `hsum x h n` is the sum over the subtree of height `h` at node `n`, a node's children
  being nodes `2 n + 1` and `2 n + 2`; at position `inv n` the same sum is `Kp` (`Kp_inv`). So to bound the sums at every
  position is to bound them at every node (`nodesLe_iff`).
-/
module

public import proofs.«01_k».proof.Proof.TreeLe
public import proofs.«01_k».proof.Proof.Lit

@[expose] public section

noncomputable section

namespace Cert.Proof.Run

open Cert.Proof.Lit

/-- The sum over the subtree of height `h` at node `n`: the node's value, then its two children's sums. -/
def hsum (x : ℕ → EReal) : ℕ → ℕ → EReal
  | 0, n => x n
  | h + 1, n => x n + (hsum x h (2 * n + 1) + hsum x h (2 * n + 2))

/-- A node's level is its position's. -/
theorem log2_node_table : allBelow (fun q => q == 0 || (decide (node q < 2047) && (Nat.log2 (node q + 1) == Nat.log2 q))) 2048 = true := by
  set_option maxRecDepth 100000 in decide +kernel

theorem log2_node {q : ℕ} (h0 : q ≠ 0) (hq : q < 2048) : node q < 2047 ∧ Nat.log2 (node q + 1) = Nat.log2 q := by
  have h := of_allBelow log2_node_table q hq
  simp only [Bool.or_eq_true, Bool.and_eq_true, decide_eq_true_eq, beq_iff_eq] at h
  exact h.resolve_left h0

/-- No node but the one past the last is at position 0. -/
theorem inv_ne_zero {n : ℕ} (hn : n < 2047) : inv n ≠ 0 := fun h => by
  have h3 := (nodeFacts (n := n) (by omega)).2.2.1
  rw [h, show node 0 = 2047 from rfl] at h3
  omega

theorem log2_of_bounds {a l : ℕ} (h1 : 2 ^ l ≤ a) (h2 : a < 2 ^ (l + 1)) : Nat.log2 a = l :=
  (Nat.log2_eq_iff (by have := Nat.two_pow_pos l; omega)).2 ⟨h1, h2⟩

theorem bounds_of_log2 {a l : ℕ} (ha : a ≠ 0) (h : Nat.log2 a = l) : 2 ^ l ≤ a ∧ a < 2 ^ (l + 1) := (Nat.log2_eq_iff ha).1 h

/-- The sum at a node's position is the sum at the node. -/
theorem Kp_inv {x y : ℕ → EReal} (hx : ∀ q, q ≠ 0 → q < 2048 → y q = x (node q)) :
    ∀ (h n : ℕ), h ≤ 10 → n < 2047 → Nat.log2 (n + 1) = 10 - h → Kp y h (inv n) = hsum x h n
  | 0, n, _, hn, _ => by
    obtain ⟨h1, -, h3, -⟩ := nodeFacts (n := n) (by omega)
    show y (inv n) = x n
    rw [hx _ (inv_ne_zero hn) h1, h3]
  | h + 1, n, hh, hn, hl => by
    obtain ⟨h1, -, h3, -⟩ := nodeFacts (n := n) (by omega)
    obtain ⟨b1, b2⟩ := bounds_of_log2 (by omega) hl
    have hp : 2 ^ (10 - (h + 1) + 1) ≤ 2 ^ 10 := Nat.pow_le_pow_right (by omega) (by omega)
    have hn' : n < 1023 := by
      have : (2 : ℕ) ^ 10 = 1024 := rfl
      omega
    obtain ⟨c1, c2⟩ := inv_child hn'
    rw [hl] at c1 c2
    have e9 : 10 - (h + 1) = 9 - h := by omega
    rw [e9] at c1 c2 b1 b2
    have e10 : (2 : ℕ) ^ (10 - h) = 2 * 2 ^ (9 - h) := by
      rw [show 10 - h = (9 - h) + 1 by omega, Nat.pow_succ, Nat.mul_comm]
    have e10' : (2 : ℕ) ^ (9 - h + 1) = 2 * 2 ^ (9 - h) := by rw [Nat.pow_succ, Nat.mul_comm]
    have e11 : (2 : ℕ) ^ (10 - h + 1) = 4 * 2 ^ (9 - h) := by rw [Nat.pow_succ, e10]; omega
    show y (inv n) + (Kp y h (inv n + 2 ^ (9 - h)) + Kp y h (inv n + 2 * 2 ^ (9 - h))) = x n + (hsum x h (2 * n + 1) + hsum x h (2 * n + 2))
    rw [← c1, ← c2, hx _ (inv_ne_zero hn) h1, h3,
      Kp_inv hx h (2 * n + 1) (by omega) (by omega) (log2_of_bounds (by omega) (by omega)),
      Kp_inv hx h (2 * n + 2) (by omega) (by omega) (log2_of_bounds (by omega) (by omega))]

/-- `NodesLe` in one statement: every height, every position of that height's level. -/
theorem nodesLe_all (y : ℕ → EReal) (u : EReal) :
    NodesLe y u ↔ ∀ h, h ≤ 10 → ∀ r, r < 2 ^ (10 - h) → Kp y h (2 ^ (10 - h) + r) ≤ u := by
  constructor
  · rintro ⟨a0, a1, a2, a3, a4, a5, a6, a7, a8, a9, a10⟩ h hh r hr
    match h, hh, r, hr with
    | 0, _, r, hr => exact a0 ⟨r, hr⟩
    | 1, _, r, hr => exact a1 ⟨r, hr⟩
    | 2, _, r, hr => exact a2 ⟨r, hr⟩
    | 3, _, r, hr => exact a3 ⟨r, hr⟩
    | 4, _, r, hr => exact a4 ⟨r, hr⟩
    | 5, _, r, hr => exact a5 ⟨r, hr⟩
    | 6, _, r, hr => exact a6 ⟨r, hr⟩
    | 7, _, r, hr => exact a7 ⟨r, hr⟩
    | 8, _, r, hr => exact a8 ⟨r, hr⟩
    | 9, _, r, hr => exact a9 ⟨r, hr⟩
    | 10, _, r, hr => exact a10 ⟨r, hr⟩
    | h + 11, hh, _, _ => omega
  · intro H
    exact ⟨fun r => H 0 (by omega) r.val r.isLt, fun r => H 1 (by omega) r.val r.isLt, fun r => H 2 (by omega) r.val r.isLt,
      fun r => H 3 (by omega) r.val r.isLt, fun r => H 4 (by omega) r.val r.isLt, fun r => H 5 (by omega) r.val r.isLt,
      fun r => H 6 (by omega) r.val r.isLt, fun r => H 7 (by omega) r.val r.isLt, fun r => H 8 (by omega) r.val r.isLt,
      fun r => H 9 (by omega) r.val r.isLt, fun r => H 10 (by omega) r.val r.isLt⟩

/-- To bound the sums at the positions is to bound the sums at the nodes. -/
theorem nodesLe_iff {x y : ℕ → EReal} (hx : ∀ q, q ≠ 0 → q < 2048 → y q = x (node q)) (u : EReal) :
    NodesLe y u ↔ ∀ n, n < 2047 → hsum x (10 - Nat.log2 (n + 1)) n ≤ u := by
  rw [nodesLe_all]
  constructor
  · intro H n hn
    obtain ⟨h1, -, h3, -⟩ := nodeFacts (n := n) (by omega)
    have hl := (log2_node (inv_ne_zero hn) h1).2
    rw [h3] at hl
    obtain ⟨b1, b2⟩ := bounds_of_log2 (inv_ne_zero hn) hl.symm
    have hlt : Nat.log2 (n + 1) < 11 := (Nat.log2_lt (by omega)).2 (by omega)
    have e : 10 - (10 - Nat.log2 (n + 1)) = Nat.log2 (n + 1) := by omega
    rw [← Kp_inv hx _ n (by omega) hn e.symm]
    have := H (10 - Nat.log2 (n + 1)) (by omega) (inv n - 2 ^ Nat.log2 (n + 1)) (by rw [e]; rw [Nat.pow_succ] at b2; omega)
    rw [e, show 2 ^ Nat.log2 (n + 1) + (inv n - 2 ^ Nat.log2 (n + 1)) = inv n by omega] at this
    exact this
  · intro H h hh r hr
    have hp : (2 : ℕ) ^ (10 - h) ≤ 2 ^ 10 := Nat.pow_le_pow_right (by omega) (by omega)
    have hpos := Nat.two_pow_pos (10 - h)
    have e1024 : (2 : ℕ) ^ 10 = 1024 := rfl
    have hq : 2 ^ (10 - h) + r < 2048 := by omega
    have hq0 : 2 ^ (10 - h) + r ≠ 0 := by omega
    obtain ⟨n1, n2⟩ := log2_node hq0 hq
    have hl : Nat.log2 (2 ^ (10 - h) + r) = 10 - h := log2_of_bounds (by omega) (by rw [Nat.pow_succ]; omega)
    have := H (node (2 ^ (10 - h) + r)) n1
    rw [n2, hl, show 10 - (10 - h) = h by omega, ← Kp_inv hx h _ hh n1 (n2.trans hl), (nodeFacts hq).2.2.2] at this
    exact this

end Cert.Proof.Run

end
-- ==== Proof.RefLevels.lean ====
/-
  The reference's levels as arithmetic on nodes: from the leaves up, level by level, each node's row gets its two children's
  rows added (`levels_step`), so that after the last level every node holds the sum over its subtree.
-/
module

public import proofs.«01_k».proof.Proof.Nodes

@[expose] public section

noncomputable section

namespace Cert.Proof.Run

/-- What node `n` holds when the levels from `l` down to the leaves are summed. -/
def upTo (x : ℕ → EReal) (l n : ℕ) : EReal := if l ≤ Nat.log2 (n + 1) then hsum x (10 - Nat.log2 (n + 1)) n else x n

theorem upTo_leaves (x : ℕ → EReal) {n : ℕ} (hn : n < 2047) : upTo x 10 n = x n := by
  have hlt : Nat.log2 (n + 1) < 11 := (Nat.log2_lt (by omega)).2 (by omega)
  unfold upTo
  split
  · rw [show 10 - Nat.log2 (n + 1) = 0 by omega]; rfl
  · rfl

theorem upTo_root (x : ℕ → EReal) (n : ℕ) : upTo x 0 n = hsum x (10 - Nat.log2 (n + 1)) n := if_pos (Nat.zero_le _)

/-- One level: the nodes of level `l` get their children's rows, the `K` nodes of level `l + 1`. -/
theorem levels_step (x : ℕ → EReal) {l K : ℕ} (hl : l < 10) (hK : K = 2 ^ (l + 1)) (n : ℕ) :
    upTo x (l + 1) n + ∑ k ∈ (Finset.univ : Finset (Fin K)).filter (fun k => (K + k.val - 2) / 2 = n), upTo x (l + 1) (K - 1 + k.val) =
      upTo x l n := by
  have hKl : K = 2 * 2 ^ l := by rw [hK, Nat.pow_succ, Nat.mul_comm]
  have hpos := Nat.two_pow_pos l
  by_cases h : Nat.log2 (n + 1) = l
  · obtain ⟨b1, b2⟩ := bounds_of_log2 (by omega) h
    rw [← hK] at b2
    have e4 : 2 ^ (l + 1 + 1) = 2 * K := by rw [Nat.pow_succ, ← hK, Nat.mul_comm]
    have l1 : Nat.log2 (2 * n + 1 + 1) = l + 1 := log2_of_bounds (by rw [← hK]; omega) (by omega)
    have l2 : Nat.log2 (2 * n + 2 + 1) = l + 1 := log2_of_bounds (by rw [← hK]; omega) (by omega)
    have hf : (Finset.univ : Finset (Fin K)).filter (fun k => (K + k.val - 2) / 2 = n) =
        {(⟨2 * n + 2 - K, by omega⟩ : Fin K), (⟨2 * n + 3 - K, by omega⟩ : Fin K)} := by
      ext k
      have := k.isLt
      simp only [Finset.mem_filter, Finset.mem_univ, true_and, Finset.mem_insert, Finset.mem_singleton, Fin.ext_iff]
      omega
    rw [hf, Finset.sum_pair (by simp only [ne_eq, Fin.ext_iff]; omega)]
    show upTo x (l + 1) n + (upTo x (l + 1) (K - 1 + (2 * n + 2 - K)) + upTo x (l + 1) (K - 1 + (2 * n + 3 - K))) = _
    rw [show K - 1 + (2 * n + 2 - K) = 2 * n + 1 by omega, show K - 1 + (2 * n + 3 - K) = 2 * n + 2 by omega]
    unfold upTo
    rw [if_neg (by omega), if_pos (by omega), if_pos (by omega), if_pos (by omega), h, l1, l2,
      show 10 - l = (10 - (l + 1)) + 1 by omega]
    rfl
  · have hf : (Finset.univ : Finset (Fin K)).filter (fun k => (K + k.val - 2) / 2 = n) = ∅ := by
      ext k
      have hk := k.isLt
      simp only [Finset.mem_filter, Finset.mem_univ, true_and, Finset.notMem_empty, iff_false]
      intro e
      exact h (log2_of_bounds (by omega) (by rw [← hK]; omega))
    rw [hf, Finset.sum_empty, add_zero]
    unfold upTo
    by_cases h' : l ≤ Nat.log2 (n + 1)
    · rw [if_pos h', if_pos (by omega)]
    · rw [if_neg h', if_neg (by omega)]

end Cert.Proof.Run

end
-- ==== Proof.RefTables.lean ====
/-
  The reference's index tables: the `K` children of a level are nodes `K - 1 + k`, their parents nodes `(K + k - 2) / 2`.
-/
module

public import proofs.«01_k».proof.ReferenceIdeal
public import proofs.«01_k».proof.Proof.LitDefs

@[expose] public section

set_option maxRecDepth 100000

noncomputable section

namespace Cert.Proof.RefTables

open Cert.ReferenceIdeal Cert.Proof.Lit

theorem table0 : allBelow (fun i => lit0t i == BitVec.ofNat 32 (1024 - 1 + i)) 1024 = true := by decide +kernel

theorem lit0_eq (k : Fin 1024) : lit0 k = BitVec.ofNat 32 (1024 - 1 + k.val) := eq_of_beq (of_allBelow table0 k.val k.isLt)

theorem table1 : allBelow (fun i => lit1t i == BitVec.ofNat 32 ((1024 + i - 2) / 2)) 1024 = true := by decide +kernel

theorem lit1_eq (k : Fin 1024) : lit1 k = BitVec.ofNat 32 ((1024 + k.val - 2) / 2) := eq_of_beq (of_allBelow table1 k.val k.isLt)

theorem table2 : allBelow (fun i => lit2t i == BitVec.ofNat 32 (512 - 1 + i)) 512 = true := by decide +kernel

theorem lit2_eq (k : Fin 512) : lit2 k = BitVec.ofNat 32 (512 - 1 + k.val) := eq_of_beq (of_allBelow table2 k.val k.isLt)

theorem table3 : allBelow (fun i => lit3t i == BitVec.ofNat 32 ((512 + i - 2) / 2)) 512 = true := by decide +kernel

theorem lit3_eq (k : Fin 512) : lit3 k = BitVec.ofNat 32 ((512 + k.val - 2) / 2) := eq_of_beq (of_allBelow table3 k.val k.isLt)

theorem lit4_eq : ∀ k : Fin 256, lit4 k = BitVec.ofNat 32 (256 - 1 + k.val) := by decide +kernel

theorem lit5_eq : ∀ k : Fin 256, lit5 k = BitVec.ofNat 32 ((256 + k.val - 2) / 2) := by decide +kernel

theorem lit6_eq : ∀ k : Fin 128, lit6 k = BitVec.ofNat 32 (128 - 1 + k.val) := by decide +kernel

theorem lit7_eq : ∀ k : Fin 128, lit7 k = BitVec.ofNat 32 ((128 + k.val - 2) / 2) := by decide +kernel

theorem lit8_eq : ∀ k : Fin 64, lit8 k = BitVec.ofNat 32 (64 - 1 + k.val) := by decide +kernel

theorem lit9_eq : ∀ k : Fin 64, lit9 k = BitVec.ofNat 32 ((64 + k.val - 2) / 2) := by decide +kernel

theorem lit10_eq : ∀ k : Fin 32, lit10 k = BitVec.ofNat 32 (32 - 1 + k.val) := by decide +kernel

theorem lit11_eq : ∀ k : Fin 32, lit11 k = BitVec.ofNat 32 ((32 + k.val - 2) / 2) := by decide +kernel

theorem lit12_eq : ∀ k : Fin 16, lit12 k = BitVec.ofNat 32 (16 - 1 + k.val) := by decide +kernel

theorem lit13_eq : ∀ k : Fin 16, lit13 k = BitVec.ofNat 32 ((16 + k.val - 2) / 2) := by decide +kernel

theorem lit14_eq : ∀ k : Fin 8, lit14 k = BitVec.ofNat 32 (8 - 1 + k.val) := by decide +kernel

theorem lit15_eq : ∀ k : Fin 8, lit15 k = BitVec.ofNat 32 ((8 + k.val - 2) / 2) := by decide +kernel

theorem lit16_eq : ∀ k : Fin 4, lit16 k = BitVec.ofNat 32 (4 - 1 + k.val) := by decide +kernel

theorem lit17_eq : ∀ k : Fin 4, lit17 k = BitVec.ofNat 32 ((4 + k.val - 2) / 2) := by decide +kernel

theorem lit18_eq : ∀ k : Fin 2, lit18 k = BitVec.ofNat 32 (2 - 1 + k.val) := by decide +kernel

end Cert.Proof.RefTables

end
-- ==== Proof.RefRows.lean ====
/-
  The reference's rows after each level, from what they are before the first one (`Rows`), down to the root (`rows_root`).
-/
module

public import proofs.«01_k».proof.Proof.RefStep
public import proofs.«01_k».proof.Proof.RefLevels
public import proofs.«01_k».proof.Proof.RefTables
public import proofs.«01_k».proof.Proof.Gen.ReferenceIdeal.Run
public import Idealize.ShloMosaic.Lib.Pipeline.Value

@[expose] public section

noncomputable section

namespace Cert.Proof.Ref

open Cert.ReferenceIdeal Cert.ReferenceIdeal.Gen Cert.ReferenceIdeal.Value
open Idealize.ShloMosaic Idealize.ShloMosaic.ValueIdx Idealize.ShloMosaic.StableHlo
open Idealize.ShloMosaic.TcCoe Idealize.SL.Sem
open Cert.Proof.Run Cert.Proof.RefStep Cert.Proof.RefTables

/-- The rows `y` are those of the node values `X`, summed from level `l` down. -/
def Rows (y : S16x2047x128.Idx → EReal) (X : Fin 16 → Fin 128 → ℕ → EReal) (l : ℕ) : Prop :=
  ∀ (t : Fin 16) (n : Fin 2047) (e : Fin 128), y (ix3 t n e) = upTo (X t e) l n.val

variable (X : Fin 16 → Fin 128 → ℕ → EReal)

/-- One level, its index tables those of its `K` children and their parents. -/
theorem rows_step {K l : ℕ} (gwf) (swf) (hl : l < 10) (hK : K = 2 ^ (l + 1)) (y : FVec Ideal SY .f32) (hy : Rows y X (l + 1))
    (I J : IVec ⟨2, ![K, 1]⟩ 32)
    (hI : ∀ k : Fin K, I (ix2 k (0 : Fin 1)) = BitVec.ofNat 32 ((K + k.val - 2) / 2))
    (hJ : ∀ k : Fin K, J (ix2 k (0 : Fin 1)) = BitVec.ofNat 32 (K - 1 + k.val)) :
    Rows (Host.scatterAdd (sd K swf) y I (Host.gather (gd K gwf) y J)) X l := fun t n e => by
  have hK' : K ≤ 2 ^ 10 := hK ▸ Nat.pow_le_pow_right (by omega) (by omega)
  have hK'' : K ≤ 1024 := hK'
  have hc : ∀ k : Fin K, K - 1 + k.val < 2047 := fun k => by omega
  refine (step_apply gwf swf y I J (fun k => (K + k.val - 2) / 2) (fun k => K - 1 + k.val) (fun k => by omega) hc hI hJ t n e).trans ?_
  rw [← levels_step (X t e) hl hK n.val, hy t n e]
  exact congrArg _ (Finset.sum_congr rfl fun k _ => hy t ⟨K - 1 + k.val, hc k⟩ e)

/-- An index table as the program reads it: the table's entry `k`. -/
theorem idx_apply {K : ℕ} (h : (⟨1, ![K]⟩ : Shape).BroadcastsInDim ⟨2, ![K, 1]⟩ ![0]) (a tbl : IVec ⟨1, ![K]⟩ 32) (k : Fin K) :
    broadcastInDim ⟨2, ![K, 1]⟩ ![0] h (select (constantI ⟨1, ![K]⟩ 1 0#1) a tbl) (ix2 k (0 : Fin 1)) = tbl (ix1 k) := by
  rw [broadcastInDim_apply ![0] h _ (ix2 k (0 : Fin 1)) (ix1 k) ?_]
  · rfl
  · intro b
    match b with
    | ⟨0, _⟩ => exact (show k.val = if K = 1 then 0 else k.val by have := k.isLt; split <;> omega)

variable (V0 : Valuation τ sig (Elt Ideal))

theorem rows_v14 (h4 : Rows (res_main_v4 V0) X 10) : Rows (res_main_v14 V0) X 9 :=
  rows_step X (K := 1024) (l := 9) gather_S16x2047x128_S1024x1_S16x1024x128_02_1_n_n_1_1_161128_wf scatter_S16x2047x128_S1024x1_S16x1024x128_02_1_1_1_wf
    (by decide) (by decide) (res_main_v4 V0) h4 _ _
    (fun k => (idx_apply _ _ _ k).trans ((lit1_eq (S1024.rowMajor (ix1 k))).trans (by rw [Shape.rowMajor_val_one])))
    (fun k => (idx_apply _ _ _ k).trans ((lit0_eq (S1024.rowMajor (ix1 k))).trans (by rw [Shape.rowMajor_val_one])))

theorem rows_v24 (h4 : Rows (res_main_v4 V0) X 10) : Rows (res_main_v24 V0) X 8 :=
  rows_step X (K := 512) (l := 8) gather_S16x2047x128_S512x1_S16x512x128_02_1_n_n_1_1_161128_wf scatter_S16x2047x128_S512x1_S16x512x128_02_1_1_1_wf
    (by decide) (by decide) (res_main_v14 V0) (rows_v14 X V0 h4) _ _
    (fun k => (idx_apply _ _ _ k).trans ((lit3_eq (S512.rowMajor (ix1 k))).trans (by rw [Shape.rowMajor_val_one])))
    (fun k => (idx_apply _ _ _ k).trans ((lit2_eq (S512.rowMajor (ix1 k))).trans (by rw [Shape.rowMajor_val_one])))

theorem rows_v34 (h4 : Rows (res_main_v4 V0) X 10) : Rows (res_main_v34 V0) X 7 :=
  rows_step X (K := 256) (l := 7) gather_S16x2047x128_S256x1_S16x256x128_02_1_n_n_1_1_161128_wf scatter_S16x2047x128_S256x1_S16x256x128_02_1_1_1_wf
    (by decide) (by decide) (res_main_v24 V0) (rows_v24 X V0 h4) _ _
    (fun k => (idx_apply _ _ _ k).trans ((lit5_eq (S256.rowMajor (ix1 k))).trans (by rw [Shape.rowMajor_val_one])))
    (fun k => (idx_apply _ _ _ k).trans ((lit4_eq (S256.rowMajor (ix1 k))).trans (by rw [Shape.rowMajor_val_one])))

theorem rows_v44 (h4 : Rows (res_main_v4 V0) X 10) : Rows (res_main_v44 V0) X 6 :=
  rows_step X (K := 128) (l := 6) gather_S16x2047x128_S128x1_S16x128x128_02_1_n_n_1_1_161128_wf scatter_S16x2047x128_S128x1_S16x128x128_02_1_1_1_wf
    (by decide) (by decide) (res_main_v34 V0) (rows_v34 X V0 h4) _ _
    (fun k => (idx_apply _ _ _ k).trans ((lit7_eq (S128.rowMajor (ix1 k))).trans (by rw [Shape.rowMajor_val_one])))
    (fun k => (idx_apply _ _ _ k).trans ((lit6_eq (S128.rowMajor (ix1 k))).trans (by rw [Shape.rowMajor_val_one])))

theorem rows_v54 (h4 : Rows (res_main_v4 V0) X 10) : Rows (res_main_v54 V0) X 5 :=
  rows_step X (K := 64) (l := 5) gather_S16x2047x128_S64x1_S16x64x128_02_1_n_n_1_1_161128_wf scatter_S16x2047x128_S64x1_S16x64x128_02_1_1_1_wf
    (by decide) (by decide) (res_main_v44 V0) (rows_v44 X V0 h4) _ _
    (fun k => (idx_apply _ _ _ k).trans ((lit9_eq (S64.rowMajor (ix1 k))).trans (by rw [Shape.rowMajor_val_one])))
    (fun k => (idx_apply _ _ _ k).trans ((lit8_eq (S64.rowMajor (ix1 k))).trans (by rw [Shape.rowMajor_val_one])))

theorem rows_v64 (h4 : Rows (res_main_v4 V0) X 10) : Rows (res_main_v64 V0) X 4 :=
  rows_step X (K := 32) (l := 4) gather_S16x2047x128_S32x1_S16x32x128_02_1_n_n_1_1_161128_wf scatter_S16x2047x128_S32x1_S16x32x128_02_1_1_1_wf
    (by decide) (by decide) (res_main_v54 V0) (rows_v54 X V0 h4) _ _
    (fun k => (idx_apply _ _ _ k).trans ((lit11_eq (S32.rowMajor (ix1 k))).trans (by rw [Shape.rowMajor_val_one])))
    (fun k => (idx_apply _ _ _ k).trans ((lit10_eq (S32.rowMajor (ix1 k))).trans (by rw [Shape.rowMajor_val_one])))

theorem rows_v74 (h4 : Rows (res_main_v4 V0) X 10) : Rows (res_main_v74 V0) X 3 :=
  rows_step X (K := 16) (l := 3) gather_S16x2047x128_S16x1_S16x16x128_02_1_n_n_1_1_161128_wf scatter_S16x2047x128_S16x1_S16x16x128_02_1_1_1_wf
    (by decide) (by decide) (res_main_v64 V0) (rows_v64 X V0 h4) _ _
    (fun k => (idx_apply _ _ _ k).trans ((lit13_eq (S16.rowMajor (ix1 k))).trans (by rw [Shape.rowMajor_val_one])))
    (fun k => (idx_apply _ _ _ k).trans ((lit12_eq (S16.rowMajor (ix1 k))).trans (by rw [Shape.rowMajor_val_one])))

theorem rows_v84 (h4 : Rows (res_main_v4 V0) X 10) : Rows (res_main_v84 V0) X 2 :=
  rows_step X (K := 8) (l := 2) gather_S16x2047x128_S8x1_S16x8x128_02_1_n_n_1_1_161128_wf scatter_S16x2047x128_S8x1_S16x8x128_02_1_1_1_wf
    (by decide) (by decide) (res_main_v74 V0) (rows_v74 X V0 h4) _ _
    (fun k => (idx_apply _ _ _ k).trans ((lit15_eq (S8.rowMajor (ix1 k))).trans (by rw [Shape.rowMajor_val_one])))
    (fun k => (idx_apply _ _ _ k).trans ((lit14_eq (S8.rowMajor (ix1 k))).trans (by rw [Shape.rowMajor_val_one])))

theorem rows_v94 (h4 : Rows (res_main_v4 V0) X 10) : Rows (res_main_v94 V0) X 1 :=
  rows_step X (K := 4) (l := 1) gather_S16x2047x128_S4x1_S16x4x128_02_1_n_n_1_1_161128_wf scatter_S16x2047x128_S4x1_S16x4x128_02_1_1_1_wf
    (by decide) (by decide) (res_main_v84 V0) (rows_v84 X V0 h4) _ _
    (fun k => (idx_apply _ _ _ k).trans ((lit17_eq (S4.rowMajor (ix1 k))).trans (by rw [Shape.rowMajor_val_one])))
    (fun k => (idx_apply _ _ _ k).trans ((lit16_eq (S4.rowMajor (ix1 k))).trans (by rw [Shape.rowMajor_val_one])))

/-- The last level: every node holds the sum over its subtree. -/
theorem rows_root (h4 : Rows (res_main_v4 V0) X 10) : Rows (Host.scatterAdd (F := Ideal) (φ := .f32) scatter_S16x2047x128_S2x1_S16x2x128_02_1_1_1 (res_main_v94 V0) (broadcastInDim S2x1 ![0] bcast_S2_S2x1_0 (select (constantI S2 1 0#1) (addi (res_main_c_37 V0) (broadcastInDim S2 ![] bcast_S_S2 (constantI S_ 32 2047#32))) (res_main_c_37 V0))) (Host.gather gather_S16x2047x128_S2x1_S16x2x128_02_1_n_n_1_1_161128 (res_main_v94 V0) (broadcastInDim S2x1 ![0] bcast_S2_S2x1_0 (select (constantI S2 1 0#1) (addi (res_main_c_35 V0) (broadcastInDim S2 ![] bcast_S_S2 (constantI S_ 32 2047#32))) (res_main_c_35 V0))))) X 0 :=
  rows_step X (K := 2) (l := 0) gather_S16x2047x128_S2x1_S16x2x128_02_1_n_n_1_1_161128_wf scatter_S16x2047x128_S2x1_S16x2x128_02_1_1_1_wf
    (by decide) (by decide) (res_main_v94 V0) (rows_v94 X V0 h4) _ _
    (fun k => (idx_apply _ _ _ k).trans (by match k with | 0 => rfl | 1 => rfl))
    (fun k => (idx_apply _ _ _ k).trans ((lit18_eq (S2.rowMajor (ix1 k))).trans (by rw [Shape.rowMajor_val_one])))

end Cert.Proof.Ref

end
-- ==== Proof.TcValue.lean ====
/-
  What the TensorCore call leaves in its result's array at the ideal values, from what its three operands hold.
-/
module

public import proofs.«01_k».proof.Proof.TreeLe
public import proofs.«01_k».proof.Proof.TcRegion
public import Idealize.ShloMosaic.Lib.Pipeline.ValueKit.Geometry

@[expose] public section

noncomputable section

namespace Cert.Proof.Run

open Cert.KernelIdeal Cert.KernelIdeal.Gen

open Idealize.ShloMosaic Idealize.ShloMosaic.ValueIdx
open Idealize.ShloMosaic.TcCoe
open Idealize.SL Idealize.SL.Sem
open Idealize.ShloMosaic.Pipeline (Dat)

/-! ## One grid point -/

section Point

variable (c : Dev nD) (M0 : Memref sig .tc .vmem S4x2048x128 .f32) (M1 : Memref sig .tc .vmem S128x128 .f32) (M2 : Memref sig .tc .vmem S1x128 .f32)
  (X0 : S4x2048x128.Idx → EReal) (X1 : S128x128.Idx → EReal) (X2 : S1x128.Idx → EReal)

/-- Row `q` of tree `j` of the block. -/
def rowOf (X : S4x2048x128.Idx → EReal) (j : Fin 4) (q : ℕ) (k : Fin 128) : EReal := X (ix3 j ⟨q % 2048, Nat.mod_lt _ (by omega)⟩ k)

theorem rd_val (t : Fin 4) (n : ℕ) (h) (hn : n + n ≤ 2048) (r : Fin n) (k : Fin 128) :
    (rd (F := Ideal) c M0 (fill (F := Ideal) c M0 X0) t.val n h (ix3 (0 : Fin 1) r k) : EReal) = rowOf X0 t (n + r.val) k := by
  show M0.view.read (Elt Ideal) (fill (F := Ideal) c M0 X0) _ = _
  rw [read_fill]
  refine congrArg X0 (funext fun a => Fin.ext ?_)
  match a with
  | ⟨0, _⟩ => rfl
  | ⟨1, _⟩ => show n + 1 * r.val = (n + r.val) % 2048; omega
  | ⟨2, _⟩ => show 0 + 1 * k.val = k.val; omega

theorem r_val (k e : Fin 128) : (tcRun.sl.r (F := Ideal) c M1 (fill (F := Ideal) c M1 X1) (ix2 k e) : EReal) = X1 (ix2 k e) := by
  show M1.view.read (Elt Ideal) (fill (F := Ideal) c M1 X1) _ = _
  rw [read_fill]
  refine congrArg X1 (funext fun a => Fin.ext ?_)
  match a with
  | ⟨0, _⟩ => show 0 + 1 * k.val = k.val; omega
  | ⟨1, _⟩ => show 0 + 1 * e.val = e.val; omega

theorem r_1_val (e : Fin 128) : (tcRun.sl.r_1 (F := Ideal) c M2 (fill (F := Ideal) c M2 X2) (ix2 (0 : Fin 1) e) : EReal) = X2 (ix2 (0 : Fin 1) e) := by
  unfold tcRun.sl.r_1 k1_pay2
  refine (shapeCast_apply _ shapeCasts_S1x128_S1x128 (ix2 (0 : Fin 1) e) (ix2 (0 : Fin 1) e) rfl).trans ?_
  show M2.view.read (Elt Ideal) (fill (F := Ideal) c M2 X2) _ = _
  rw [read_fill]
  refine congrArg X2 (funext fun a => Fin.ext ?_)
  match a with
  | ⟨0, _⟩ => rfl
  | ⟨1, _⟩ => show 0 + 1 * e.val = e.val; omega

/-- A node's own value. -/
def nodeVal (G : ℕ → Fin 128 → EReal) (W : Fin 128 → EReal) (β : EReal) (q : ℕ) : EReal := (∑ k : Fin 128, G q k * W k) + β

theorem xq_val (G : ℕ → Fin 128 → EReal) (e : Fin 128) :
    xq (tcRun.sl.r (F := Ideal) c M1 (fill (F := Ideal) c M1 X1)) (tcRun.sl.r_1 (F := Ideal) c M2 (fill (F := Ideal) c M2 X2)) G e
      = nodeVal G (fun k => X1 (ix2 k e)) (X2 (ix2 (0 : Fin 1) e)) := by
  funext q
  unfold xq nodeVal
  rw [r_1_val]
  exact congrArg (· + X2 (ix2 (0 : Fin 1) e)) (Finset.sum_congr rfl fun k _ => congrArg (G q k * ·) (r_val c M1 X1 k e))

theorem tree0_le (e : Fin 128) (u : EReal) :
    (tree0 (F := Ideal) c M0 M1 M2 (fill (F := Ideal) c M0 X0) (fill (F := Ideal) c M1 X1) (fill (F := Ideal) c M2 X2) (ix3 (0 : Fin 1) (0 : Fin 1) e) : EReal) ≤ u
      ↔ NodesLe (nodeVal (rowOf X0 0) (fun k => X1 (ix2 k e)) (X2 (ix2 (0 : Fin 1) e))) u := by
  rw [← xq_val c M1 M2 X1 X2]
  exact tree_le _ _ (rowOf X0 0) _ _ _ _ _ _ _ _ _ _ _
    (rd_val c M0 X0 0 1024 Gen.inb_S4x2048x128_S1x1024x128_0_1024_0 (by omega))
    (rd_val c M0 X0 0 512 Gen.inb_S4x2048x128_S1x512x128_0_512_0 (by omega))
    (rd_val c M0 X0 0 256 Gen.inb_S4x2048x128_S1x256x128_0_256_0 (by omega))
    (rd_val c M0 X0 0 128 Gen.inb_S4x2048x128_S1x128x128_0_128_0 (by omega))
    (rd_val c M0 X0 0 64 Gen.inb_S4x2048x128_S1x64x128_0_64_0 (by omega))
    (rd_val c M0 X0 0 32 Gen.inb_S4x2048x128_S1x32x128_0_32_0 (by omega))
    (rd_val c M0 X0 0 16 Gen.inb_S4x2048x128_S1x16x128_0_16_0 (by omega))
    (rd_val c M0 X0 0 8 Gen.inb_S4x2048x128_S1x8x128_0_8_0 (by omega))
    (rd_val c M0 X0 0 4 Gen.inb_S4x2048x128_S1x4x128_0_4_0 (by omega))
    (rd_val c M0 X0 0 2 Gen.inb_S4x2048x128_S1x2x128_0_2_0 (by omega))
    (rd_val c M0 X0 0 1 Gen.inb_S4x2048x128_S1x1x128_0_1_0 (by omega))
    e u

theorem tree1_le (e : Fin 128) (u : EReal) :
    (tree1 (F := Ideal) c M0 M1 M2 (fill (F := Ideal) c M0 X0) (fill (F := Ideal) c M1 X1) (fill (F := Ideal) c M2 X2) (ix3 (0 : Fin 1) (0 : Fin 1) e) : EReal) ≤ u
      ↔ NodesLe (nodeVal (rowOf X0 1) (fun k => X1 (ix2 k e)) (X2 (ix2 (0 : Fin 1) e))) u := by
  rw [← xq_val c M1 M2 X1 X2]
  exact tree_le _ _ (rowOf X0 1) _ _ _ _ _ _ _ _ _ _ _
    (rd_val c M0 X0 1 1024 Gen.inb_S4x2048x128_S1x1024x128_1_1024_0 (by omega))
    (rd_val c M0 X0 1 512 Gen.inb_S4x2048x128_S1x512x128_1_512_0 (by omega))
    (rd_val c M0 X0 1 256 Gen.inb_S4x2048x128_S1x256x128_1_256_0 (by omega))
    (rd_val c M0 X0 1 128 Gen.inb_S4x2048x128_S1x128x128_1_128_0 (by omega))
    (rd_val c M0 X0 1 64 Gen.inb_S4x2048x128_S1x64x128_1_64_0 (by omega))
    (rd_val c M0 X0 1 32 Gen.inb_S4x2048x128_S1x32x128_1_32_0 (by omega))
    (rd_val c M0 X0 1 16 Gen.inb_S4x2048x128_S1x16x128_1_16_0 (by omega))
    (rd_val c M0 X0 1 8 Gen.inb_S4x2048x128_S1x8x128_1_8_0 (by omega))
    (rd_val c M0 X0 1 4 Gen.inb_S4x2048x128_S1x4x128_1_4_0 (by omega))
    (rd_val c M0 X0 1 2 Gen.inb_S4x2048x128_S1x2x128_1_2_0 (by omega))
    (rd_val c M0 X0 1 1 Gen.inb_S4x2048x128_S1x1x128_1_1_0 (by omega))
    e u

theorem tree2_le (e : Fin 128) (u : EReal) :
    (tree2 (F := Ideal) c M0 M1 M2 (fill (F := Ideal) c M0 X0) (fill (F := Ideal) c M1 X1) (fill (F := Ideal) c M2 X2) (ix3 (0 : Fin 1) (0 : Fin 1) e) : EReal) ≤ u
      ↔ NodesLe (nodeVal (rowOf X0 2) (fun k => X1 (ix2 k e)) (X2 (ix2 (0 : Fin 1) e))) u := by
  rw [← xq_val c M1 M2 X1 X2]
  exact tree_le _ _ (rowOf X0 2) _ _ _ _ _ _ _ _ _ _ _
    (rd_val c M0 X0 2 1024 Gen.inb_S4x2048x128_S1x1024x128_2_1024_0 (by omega))
    (rd_val c M0 X0 2 512 Gen.inb_S4x2048x128_S1x512x128_2_512_0 (by omega))
    (rd_val c M0 X0 2 256 Gen.inb_S4x2048x128_S1x256x128_2_256_0 (by omega))
    (rd_val c M0 X0 2 128 Gen.inb_S4x2048x128_S1x128x128_2_128_0 (by omega))
    (rd_val c M0 X0 2 64 Gen.inb_S4x2048x128_S1x64x128_2_64_0 (by omega))
    (rd_val c M0 X0 2 32 Gen.inb_S4x2048x128_S1x32x128_2_32_0 (by omega))
    (rd_val c M0 X0 2 16 Gen.inb_S4x2048x128_S1x16x128_2_16_0 (by omega))
    (rd_val c M0 X0 2 8 Gen.inb_S4x2048x128_S1x8x128_2_8_0 (by omega))
    (rd_val c M0 X0 2 4 Gen.inb_S4x2048x128_S1x4x128_2_4_0 (by omega))
    (rd_val c M0 X0 2 2 Gen.inb_S4x2048x128_S1x2x128_2_2_0 (by omega))
    (rd_val c M0 X0 2 1 Gen.inb_S4x2048x128_S1x1x128_2_1_0 (by omega))
    e u

theorem tree3_le (e : Fin 128) (u : EReal) :
    (tree3 (F := Ideal) c M0 M1 M2 (fill (F := Ideal) c M0 X0) (fill (F := Ideal) c M1 X1) (fill (F := Ideal) c M2 X2) (ix3 (0 : Fin 1) (0 : Fin 1) e) : EReal) ≤ u
      ↔ NodesLe (nodeVal (rowOf X0 3) (fun k => X1 (ix2 k e)) (X2 (ix2 (0 : Fin 1) e))) u := by
  rw [← xq_val c M1 M2 X1 X2]
  exact tree_le _ _ (rowOf X0 3) _ _ _ _ _ _ _ _ _ _ _
    (rd_val c M0 X0 3 1024 Gen.inb_S4x2048x128_S1x1024x128_3_1024_0 (by omega))
    (rd_val c M0 X0 3 512 Gen.inb_S4x2048x128_S1x512x128_3_512_0 (by omega))
    (rd_val c M0 X0 3 256 Gen.inb_S4x2048x128_S1x256x128_3_256_0 (by omega))
    (rd_val c M0 X0 3 128 Gen.inb_S4x2048x128_S1x128x128_3_128_0 (by omega))
    (rd_val c M0 X0 3 64 Gen.inb_S4x2048x128_S1x64x128_3_64_0 (by omega))
    (rd_val c M0 X0 3 32 Gen.inb_S4x2048x128_S1x32x128_3_32_0 (by omega))
    (rd_val c M0 X0 3 16 Gen.inb_S4x2048x128_S1x16x128_3_16_0 (by omega))
    (rd_val c M0 X0 3 8 Gen.inb_S4x2048x128_S1x8x128_3_8_0 (by omega))
    (rd_val c M0 X0 3 4 Gen.inb_S4x2048x128_S1x4x128_3_4_0 (by omega))
    (rd_val c M0 X0 3 2 Gen.inb_S4x2048x128_S1x2x128_3_2_0 (by omega))
    (rd_val c M0 X0 3 1 Gen.inb_S4x2048x128_S1x1x128_3_1_0 (by omega))
    e u

/-- Row `t` of the result's block. -/
abbrev row4 (t : ℕ) (h : ∀ a : Fin 3, ![t, 0, 0] a + S1x1x128.size a ≤ S4x1x128.size a) : Rect S4x1x128 := Rect.unit ![t, 0, 0] S1x1x128.size h

theorem row4_emb (t : Fin 4) (h) (e : Fin 128) : (row4 t.val h).emb (ix3 (0 : Fin 1) (0 : Fin 1) e) = ix3 t (0 : Fin 1) e := by
  refine funext fun a => Fin.ext ?_
  rw [ValueKit.rect_emb_unit_val]
  match a with
  | ⟨0, _⟩ => rfl
  | ⟨1, _⟩ => rfl
  | ⟨2, _⟩ => exact Nat.zero_add _

/-- A piece written last at row `t`, read there. -/
theorem hit4 (M3 : Memref sig .tc .vmem S4x1x128 .f32) (t : Fin 4) (h) (p : S1x1x128.Idx → Elt Ideal .f32) (L : List (View.Piece (Elt Ideal) S4x1x128 .f32)) (e : Fin 128) :
    M3.view.read (Elt Ideal) (M3.view.writes (Elt Ideal) M3.view.junk (⟨row4 t.val h, p⟩ :: L)) (ix3 t (0 : Fin 1) e) = p (ix3 (0 : Fin 1) (0 : Fin 1) e) :=
  View.read_writes_cons_hit M3.view M3.view.junk (row4 t.val h) p L (ix3 (0 : Fin 1) (0 : Fin 1) e) _ (row4_emb t h e)

/-- A piece written last at another row is not seen at row `t`. -/
theorem miss4 (M3 : Memref sig .tc .vmem S4x1x128 .f32) (t k : Fin 4) (hk : t ≠ k) (h) (p : S1x1x128.Idx → Elt Ideal .f32) (L : List (View.Piece (Elt Ideal) S4x1x128 .f32)) (e : Fin 128) :
    M3.view.read (Elt Ideal) (M3.view.writes (Elt Ideal) M3.view.junk (⟨row4 k.val h, p⟩ :: L)) (ix3 t (0 : Fin 1) e)
      = M3.view.read (Elt Ideal) (M3.view.writes (Elt Ideal) M3.view.junk L) (ix3 t (0 : Fin 1) e) :=
  View.read_writes_cons_miss_of_axis _ _ _ _ _ 0 k.val 1 rfl rfl rfl (by
    have := Fin.val_ne_of_ne hk
    show t.val < k.val ∨ k.val + 1 ≤ t.val
    omega)

/-- What the body leaves in the result's buffer: its four stores, one after another. -/
theorem tcRun_val (i : grid1.Coords) (h0 : M0.IsWhole) (h1 : M1.IsWhole) (h2 : M2.IsWhole) (M3 : Memref sig .tc .vmem S4x1x128 .f32) (h3 : M3.IsWhole)
    (f0 : Bf (F := Ideal) c M0) (f1 : Bf (F := Ideal) c M1) (f2 : Bf (F := Ideal) c M2) :
    (tcRun (F := Ideal) c i M0 h0 M1 h1 M2 h2 M3 h3 f0 f1 f2).1
      = M3.view.writes (Elt Ideal) M3.view.junk (tcRun.sl.H3_4 (F := Ideal) c M0 M1 M2 f0 f1 f2) := rfl

/-- What the body leaves in the result's buffer, read: each of the four trees' maximum. -/
theorem point_le (M3 : Memref sig .tc .vmem S4x1x128 .f32) (j : Fin 4) (e : Fin 128) (u : EReal) :
    (M3.view.read (Elt Ideal) (M3.view.writes (Elt Ideal) M3.view.junk (tcRun.sl.H3_4 (F := Ideal) c M0 M1 M2 (fill (F := Ideal) c M0 X0) (fill (F := Ideal) c M1 X1) (fill (F := Ideal) c M2 X2))) (ix3 j (0 : Fin 1) e) : EReal) ≤ u
      ↔ NodesLe (nodeVal (rowOf X0 j) (fun k => X1 (ix2 k e)) (X2 (ix2 (0 : Fin 1) e))) u := by
  rw [H3_4_eq]
  match j with
  | ⟨0, _⟩ => exact (iff_of_eq (congrArg (fun v : EReal => v ≤ u) ((miss4 M3 0 3 (by decide) _ _ _ e).trans ((miss4 M3 0 2 (by decide) _ _ _ e).trans ((miss4 M3 0 1 (by decide) _ _ _ e).trans (hit4 M3 0 _ _ _ e)))))).trans (tree0_le c M0 M1 M2 X0 X1 X2 e u)
  | ⟨1, _⟩ => exact (iff_of_eq (congrArg (fun v : EReal => v ≤ u) ((miss4 M3 1 3 (by decide) _ _ _ e).trans ((miss4 M3 1 2 (by decide) _ _ _ e).trans (hit4 M3 1 _ _ _ e))))).trans (tree1_le c M0 M1 M2 X0 X1 X2 e u)
  | ⟨2, _⟩ => exact (iff_of_eq (congrArg (fun v : EReal => v ≤ u) ((miss4 M3 2 3 (by decide) _ _ _ e).trans (hit4 M3 2 _ _ _ e)))).trans (tree2_le c M0 M1 M2 X0 X1 X2 e u)
  | ⟨3, _⟩ => exact (iff_of_eq (congrArg (fun v : EReal => v ≤ u) (hit4 M3 3 _ _ _ e))).trans (tree3_le c M0 M1 M2 X0 X1 X2 e u)

end Point

/-! ## The array -/

section Array

variable (V : (c : Dev nD) → (b : Ref sig .tc) → Buf (Elt Ideal) ((c : Thread nD τ).loc b)) (c : Dev nD)

/-- Row `q` of tree `t` of the gathered rows. -/
def treeRow (t : Fin 16) (q : ℕ) (k : Fin 128) : EReal :=
  (V c main_v3 : S16x2048x128.Idx → EReal) (ix3 t ⟨q % 2048, Nat.mod_lt _ (by omega)⟩ k)

theorem index1_0 : ∀ t : Fin cfg1.N, win1_0.index t = ![t.val, 0, 0] := (by decide +kernel : ∀ t : Fin grid1.N, win1_0.index t = ![t.val, 0, 0])
theorem index1_1 : ∀ t : Fin cfg1.N, win1_1.index t = ![0, 0] := (by decide +kernel : ∀ t : Fin grid1.N, win1_1.index t = ![0, 0])
theorem index1_2 : ∀ t : Fin cfg1.N, win1_2.index t = ![0, 0] := (by decide +kernel : ∀ t : Fin grid1.N, win1_2.index t = ![0, 0])
theorem index1_3 : ∀ t : Fin cfg1.N, win1_3.index t = ![t.val, 0, 0] := (by decide +kernel : ∀ t : Fin grid1.N, win1_3.index t = ![t.val, 0, 0])

theorem blk0_val (t : Fin cfg1.N) (j : Fin 4) (q : Fin 2048) (k : Fin 128) (T : Fin 16) (hT : T.val = t.val * 4 + j.val) :
    (blk0 V c t (ix3 j q k) : EReal) = (V c main_v3 : S16x2048x128.Idx → EReal) (ix3 T q k) := by
  refine congrArg (V c main_v3 : S16x2048x128.Idx → EReal) (funext fun a => Fin.ext ?_)
  match a with
  | ⟨0, _⟩ => blk_simp [index1_0]; exact hT.symm
  | ⟨1, _⟩ => blk_simp [index1_0]
  | ⟨2, _⟩ => blk_simp [index1_0]

theorem blk1_val (t : Fin cfg1.N) (k e : Fin 128) : (blk1 V c t (ix2 k e) : EReal) = (V c main_arg2 : S128x128.Idx → EReal) (ix2 k e) := by
  refine congrArg (V c main_arg2 : S128x128.Idx → EReal) (funext fun a => Fin.ext ?_)
  match a with
  | ⟨0, _⟩ => blk_simp [index1_1]
  | ⟨1, _⟩ => blk_simp [index1_1]

theorem blk2_val (t : Fin cfg1.N) (e : Fin 128) : (blk2 V c t (ix2 (0 : Fin 1) e) : EReal) = (V c main_v4 : S1x128.Idx → EReal) (ix2 (0 : Fin 1) e) := by
  refine congrArg (V c main_v4 : S1x128.Idx → EReal) (funext fun a => Fin.ext ?_)
  match a with
  | ⟨0, _⟩ => blk_simp [index1_2]
  | ⟨1, _⟩ => blk_simp [index1_2]

/-- `v` is the maximum over tree `i 0` of the sums over the subtrees, in column `i 2`. -/
def TreeMax (i : S16x1x128.Idx) (v : EReal) : Prop :=
  ∀ u : EReal, v ≤ u ↔ NodesLe (nodeVal (treeRow V c (i 0)) (fun k => (V c main_arg2 : S128x128.Idx → EReal) (ix2 k (i 2)))
    ((V c main_v4 : S1x128.Idx → EReal) (ix2 (0 : Fin 1) (i 2)))) u

theorem point_max (t : Fin cfg1.N) (y : S4x1x128.Idx) (i : S16x1x128.Idx) (h0 : (i 0).val = t.val * 4 + (y 0).val) (h2 : (i 2).val = (y 2).val) :
    TreeMax V c i ((st1_3 t).view.read (Elt Ideal) (runAt V c t).1 y) := by
  intro u
  have hy : y = ix3 (y 0) (0 : Fin 1) (y 2) := by
    funext a
    match a with
    | ⟨0, _⟩ => rfl
    | ⟨1, _⟩ => exact Subsingleton.elim (α := Fin 1) _ _
    | ⟨2, _⟩ => rfl
  have h := point_le c (st1_0 t) (st1_1 t) (st1_2 t) (blk0 V c t) (blk1 V c t) (blk2 V c t) (st1_3 t) (y 0) (y 2) u
  have hv : ((st1_3 t).view.read (Elt Ideal) (runAt V c t).1 y : EReal)
      = (st1_3 t).view.read (Elt Ideal) ((st1_3 t).view.writes (Elt Ideal) (st1_3 t).view.junk (tcRun.sl.H3_4 (F := Ideal) c (st1_0 t) (st1_1 t) (st1_2 t)
          (fill (F := Ideal) c (st1_0 t) (blk0 V c t)) (fill (F := Ideal) c (st1_1 t) (blk1 V c t)) (fill (F := Ideal) c (st1_2 t) (blk2 V c t))))
          (ix3 (y 0) (0 : Fin 1) (y 2)) :=
    (congrFun (congrArg ((st1_3 t).view.read (Elt Ideal)) (tcRun_val c (st1_0 t) (st1_1 t) (st1_2 t) _ _ _ _ (st1_3 t) _ _ _ _)) y).trans
      (congrArg _ hy)
  refine (iff_of_eq (congrArg (fun v : EReal => v ≤ u) hv)).trans (h.trans ?_)
  refine (iff_of_eq (congrArg (NodesLe · u) (funext fun q => ?_)))
  have e2 : y 2 = i 2 := Fin.ext h2.symm
  have hb : (blk2 V c t (ix2 (0 : Fin 1) (y 2)) : EReal) = (V c main_v4 : S1x128.Idx → EReal) (ix2 (0 : Fin 1) (i 2)) :=
    (blk2_val V c t (y 2)).trans (congrArg (fun e : Fin 128 => (V c main_v4 : S1x128.Idx → EReal) (ix2 (0 : Fin 1) e)) e2)
  refine congrArg₂ (fun a b : EReal => a + b) (Finset.sum_congr rfl fun k _ => congrArg₂ (fun a b : EReal => a * b) ?_ ?_) hb
  · exact blk0_val V c t (y 0) _ k (i 0) h0
  · exact (blk1_val V c t k (y 2)).trans (congrArg (fun e : Fin 128 => (V c main_arg2 : S128x128.Idx → EReal) (ix2 k e)) e2)

/-- The result's array after the call: at every element, the maximum over the tree. -/
theorem tcOut_max (i : S16x1x128.Idx) : TreeMax V c i (tcOut V c i) := by
  refine (dat V c).arrAt_forall_of_covers 3 (TreeMax V c) (by decide +kernel) (fun t _ y => ?_) i
  refine point_max V c t y _ ?_ ?_
  · blk_simp [index1_3]
  · blk_simp [index1_3]

end Array

end Cert.Proof.Run
-- ==== Proof.RefValue.lean ====
/-
  The reference's value: under tokens that name rows of the embedding table, every node's row before the levels is its
  token's embedding row times the weights, plus the bias (`rows_v4`), and the result is the maximum of every node's sum
  (`root_max`).
-/
module

public import proofs.«01_k».proof.Proof.RefRows
public import proofs.«01_k».proof.Proof.TcValue
public import Idealize.ShloMosaic.Lib.ReduceAll
public import Idealize.ShloMosaic.PureOps.Reduce

@[expose] public section

noncomputable section

namespace Cert.Proof.Ref

open Cert.ReferenceIdeal Cert.ReferenceIdeal.Gen Cert.ReferenceIdeal.Value
open Idealize.ShloMosaic Idealize.ShloMosaic.ValueIdx Idealize.ShloMosaic.StableHlo
open Idealize.ShloMosaic.TcCoe Idealize.SL.Sem
open Cert.Proof.Run Cert.Proof.RefStep Cert.Proof.RefTables

/-- Node `n`'s value in tree `t`, column `e`: the token's embedding row times the weights' column, plus the bias. -/
def nodeX (A : S16x2047.Idx → BitVec 32) (E : S100000x128.Idx → EReal) (W : S128x128.Idx → EReal) (B : S128.Idx → EReal)
    (t : Fin 16) (e : Fin 128) (n : ℕ) : EReal :=
  nodeVal (fun n k => E (ix2 (⟨(A (ix2 t (⟨n % 2047, Nat.mod_lt _ (by decide)⟩ : Fin 2047))).toNat % 100000, Nat.mod_lt _ (by decide)⟩ : Fin 100000) k))
    (fun k => W (ix2 k e)) (B (ix1 e)) n

section Words

variable (w : BitVec 32) (h : w.toNat < 100000)
include h

theorem toInt_eq : w.toInt = (w.toNat : Int) := BitVec.toInt_eq_toNat_of_lt (by omega)

theorem not_slt : IntOp.cmpi .slt w 0#32 = 0#1 := by
  have e : w.slt 0#32 = false := by
    rw [BitVec.slt_eq_decide, toInt_eq w h]
    exact decide_eq_false (show ¬ ((w.toNat : Int) < 0) by omega)
  show BitVec.ofBool (w.slt 0#32) = 0#1
  rw [e]; rfl

theorem sge : IntOp.cmpi .sge w 0#32 = 1#1 := by
  have e : (0#32).sle w = true := by
    rw [BitVec.sle_eq_decide, toInt_eq w h]
    exact decide_eq_true (show (0 : Int) ≤ (w.toNat : Int) by omega)
  show BitVec.ofBool ((0#32).sle w) = 1#1
  rw [e]; rfl

theorem sle : IntOp.cmpi .sle w 99999#32 = 1#1 := by
  have e : w.sle 99999#32 = true := by
    rw [BitVec.sle_eq_decide, toInt_eq w h]
    exact decide_eq_true (show (w.toNat : Int) ≤ 99999 by omega)
  show BitVec.ofBool (w.sle 99999#32) = 1#1
  rw [e]; rfl

end Words

/-- A select where the mask is set. -/
theorem select_of_mask {s : Shape} (c : IVec s 1) (a b : s.Idx → EReal) (i : s.Idx) (h : c i = 1#1) : select c a b i = a i := by
  show Scalar.select (c i) (a i) (b i) = a i
  rw [h]; rfl

variable (V0 : Valuation τ sig (Elt Ideal))

/-- The arguments as arrays. -/
abbrev argA : S16x2047.Idx → BitVec 32 := V0 (Proc.devRef .tc main_arg0)
abbrev argE : S100000x128.Idx → EReal := V0 (Proc.devRef .tc main_arg1)
abbrev argW : S128x128.Idx → EReal := V0 (Proc.devRef .tc main_arg2)
abbrev argB : S128.Idx → EReal := V0 (Proc.devRef .tc main_arg3)

variable (hA : ∀ j, (argA V0 j).toNat < 100000)
include hA

theorem v5_apply (t : Fin 16) (n : Fin 2047) : res_main_call0_v5 V0 (ix3 t n (0 : Fin 1)) = argA V0 (ix2 t n) := by
  unfold res_main_call0_v5
  refine (broadcastInDim_apply (s := S16x2047) (t := S16x2047x1) ![0, 1] bcast_S16x2047_S16x2047x1_0_1 _ (ix3 t n (0 : Fin 1)) (ix2 t n) ?_).trans ?_
  · intro a
    match a with
    | ⟨0, _⟩ => rfl
    | ⟨1, _⟩ => rfl
  · show Scalar.select (IntOp.cmpi .slt (argA V0 (ix2 t n)) 0#32) _ (argA V0 (ix2 t n)) = _
    rw [not_slt _ (hA _)]
    rfl

/-- The embedding rows taken at the tokens. -/
theorem take_apply (t : Fin 16) (n : Fin 2047) (k : Fin 128) :
    Host.gather gather_S100000x128_S16x2047x1_S16x2047x128_2_0_n_n_0_2_1128 (argE V0) (res_main_call0_v5 V0) (ix3 t n k) =
      argE V0 (ix2 (⟨(argA V0 (ix2 t n)).toNat % 100000, Nat.mod_lt _ (by decide)⟩ : Fin 100000) k) := by
  have hlt := hA (ix2 t n)
  set D := gather_S100000x128_S16x2047x1_S16x2047x128_2_0_n_n_0_2_1128 with hD
  unfold Host.gather
  refine congrArg (argE V0) (funext fun a => Fin.ext ?_)
  show D.start (ix3 t n k) (res_main_call0_v5 V0) a + D.batchCoord (ix3 t n k) a + D.offCoord (ix3 t n k) a = _
  rw [GatherDims.batchCoord_eq_zero _ _ _ List.not_mem_nil]
  match a with
  | ⟨0, _⟩ =>
    have ho : D.offCoord (ix3 t n k) (0 : Fin 2) = 0 := rfl
    have hs : D.start (ix3 t n k) (res_main_call0_v5 V0) (0 : Fin 2) = (argA V0 (ix2 t n)).toNat := by
      unfold GatherDims.start
      rw [dif_pos (show (0 : Fin 2) ∈ D.startIndexMap from List.mem_singleton.mpr rfl)]
      have hsi : D.siIdx (ix3 t n k) ⟨List.idxOf (0 : Fin 2) D.startIndexMap,
          List.idxOf_lt_length_iff.2 (List.mem_singleton.mpr rfl)⟩ = ix3 t n (0 : Fin 1) := by
        funext b; refine Fin.ext ?_
        match b with
        | ⟨0, _⟩ => rfl
        | ⟨1, _⟩ => rfl
        | ⟨2, _⟩ => rfl
      rw [hsi, v5_apply V0 hA, BitVec.toInt_eq_toNat_of_lt (by omega)]
      show min ((argA V0 (ix2 t n)).toNat : Int).toNat (100000 - 1) = _
      omega
    show D.start (ix3 t n k) (res_main_call0_v5 V0) (0 : Fin 2) + 0 + D.offCoord (ix3 t n k) (0 : Fin 2) = (argA V0 (ix2 t n)).toNat % 100000
    rw [hs, ho]; omega
  | ⟨1, _⟩ =>
    have hs : D.start (ix3 t n k) (res_main_call0_v5 V0) (1 : Fin 2) = 0 := by
      unfold GatherDims.start
      rw [dif_neg (show ¬ (1 : Fin 2) ∈ D.startIndexMap from (by decide : ¬ (1 : Fin 2) ∈ ([0] : List (Fin 2))))]
    have ho : D.offCoord (ix3 t n k) (1 : Fin 2) = k.val := rfl
    show D.start (ix3 t n k) (res_main_call0_v5 V0) (1 : Fin 2) + 0 + D.offCoord (ix3 t n k) (1 : Fin 2) = k.val
    rw [hs, ho]; omega

/-- Every token is in range: the mask of rows out of range is nowhere set. -/
theorem mask_apply (i : S16x2047x128.Idx) :
    broadcastInDim S16x2047x128 ![0, 1] bcast_S16x2047_S16x2047x128_0_1 (Host.reduce IntOp.andi (andi (cmpi .sge (res_main_call0_v5 V0) (broadcastInDim S16x2047x1 ![] bcast_S_S16x2047x1 (constantI S_ 32 0#32))) (cmpi .sle (res_main_call0_v5 V0) (broadcastInDim S16x2047x1 ![0, 1, 2] bcast_S1x1x1_S16x2047x1_0_1_2 (broadcastInDim S1x1x1 ![2] bcast_S1_S1x1x1_2 (constantI S1 32 99999#32))))) (constantI S_ 1 1#1) reducesTo_S16x2047x1_S16x2047_d2 h_S_) i = 1#1 := by
  refine Host.reduce_andi_one _ _ _ _ _ rfl fun j => ?_
  show IntOp.andi (IntOp.cmpi .sge (res_main_call0_v5 V0 j) 0#32) (IntOp.cmpi .sle (res_main_call0_v5 V0 j) 99999#32) = 1#1
  have hj : res_main_call0_v5 V0 j = argA V0 (ix2 (j 0) (j 1)) := by
    have e : j = ix3 (j 0) (j 1) (0 : Fin 1) := (eq_ix3 j).trans (congrArg (ix3 (j 0) (j 1)) (Subsingleton.elim (α := Fin 1) _ _))
    rw [e]
    exact v5_apply V0 hA (j 0) (j 1)
  rw [hj, sge _ (hA _), sle _ (hA _)]
  rfl

/-- The rows before the levels: each node's value. -/
theorem rows_v4 : Rows (res_main_v4 V0) (fun t e => nodeX (argA V0) (argE V0) (argW V0) (argB V0) t e) 10 := fun t n e => by
  rw [upTo_leaves _ n.isLt]
  unfold res_main_v4
  have hdot : ∀ (x : FVec Ideal S16x2047x128 .f32) (g : Fin 128 → EReal), (∀ k, (x (ix3 t n k) : EReal) = g k) →
      (Host.dotGeneral (F := Ideal) (φ₁ := .f32) (φ₂ := .f32) dot_S16x2047x128_S128x128_S16x2047x128_2_0_01_1_n_n none x (argW V0) (ix3 t n e) : EReal) = ∑ k, g k * argW V0 (ix2 k e) := by
    intro x g hx
    have h0 : (Host.dotGeneral (F := Ideal) (φ₁ := .f32) (φ₂ := .f32) dot_S16x2047x128_S128x128_S16x2047x128_2_0_01_1_n_n none x (argW V0) (ix3 t n e) : EReal) = _ :=
      Ideal.dotGeneral_apply (φ₁ := .f32) (φ₂ := .f32) dot_S16x2047x128_S128x128_S16x2047x128_2_0_01_1_n_n none .single x (argW V0) (ix3 t n e)
    refine h0.trans ?_
    refine (Equiv.sum_comp (contrEquiv1 dot_S16x2047x128_S128x128_S16x2047x128_2_0_01_1_n_n 128 rfl rfl).symm _).symm.trans ?_
    refine Finset.sum_congr rfl fun k _ => ?_
    refine congrArg₂ (fun a b : EReal => a * b) ((congrArg x ?_).trans (hx k)) (congrArg (argW V0) ?_)
    · funext a
      match a with
      | ⟨0, _⟩ => rfl
      | ⟨1, _⟩ => rfl
      | ⟨2, _⟩ => rfl
    · funext a
      match a with
      | ⟨0, _⟩ => rfl
      | ⟨1, _⟩ => rfl
  have hb : broadcastInDim S16x2047x128 ![0, 1, 2] bcast_S1x1x128_S16x2047x128_0_1_2 (broadcastInDim S1x1x128 ![2] bcast_S128_S1x1x128_2 (argB V0)) (ix3 t n e) = argB V0 (ix1 e) := by
    refine (broadcastInDim_apply (s := S1x1x128) (t := S16x2047x128) ![0, 1, 2] bcast_S1x1x128_S16x2047x128_0_1_2 _ (ix3 t n e) (ix3 (0 : Fin 1) (0 : Fin 1) e) ?_).trans ?_
    · intro a
      match a with
      | ⟨0, _⟩ => rfl
      | ⟨1, _⟩ => rfl
      | ⟨2, _⟩ => rfl
    · refine broadcastInDim_apply (s := S128) (t := S1x1x128) ![2] bcast_S128_S1x1x128_2 _ (ix3 (0 : Fin 1) (0 : Fin 1) e) (ix1 e) ?_
      intro a
      match a with
      | ⟨0, _⟩ => rfl
  refine congrArg₂ (fun a b : EReal => a + b) (hdot _ (fun k => argE V0 (ix2 (⟨(argA V0 (ix2 t (⟨n.val % 2047, Nat.mod_lt _ (by decide)⟩ : Fin 2047))).toNat % 100000, Nat.mod_lt _ (by decide)⟩ : Fin 100000) k)) fun k => ?_) hb
  refine (select_of_mask _ _ _ (ix3 t n k) (mask_apply V0 hA (ix3 t n k))).trans ?_
  refine (take_apply V0 hA t n k).trans ?_
  have en : (⟨n.val % 2047, Nat.mod_lt _ (by decide)⟩ : Fin 2047) = n := Fin.ext (Nat.mod_eq_of_lt n.isLt)
  rw [en]

omit hA in
/-- The maximum over the nodes. -/
theorem max_le (y : FVec Ideal S16x2047x128 .f32) (t : Fin 16) (e : Fin 128) (u : EReal) :
    (Host.reduce (α := Ideal .f32) FloatOps.maximumf y (constant S_ .f32 0xFF800000#32) reducesTo_S16x2047x128_S16x128_d1 h_S_ (ix2 t e) : EReal) ≤ u ↔
      ∀ n : Fin 2047, (y (ix3 t n e) : EReal) ≤ u := by
  have hr : S16x2047x128.Reduces [1] S16x128 := by decide
  refine (iff_of_eq (congrArg (fun v : EReal => v ≤ u) (Host.reduce_eq_fold_single (FloatOps.maximumf (F := Ideal) (φ := .f32)) y _ reducesTo_S16x2047x128_S16x128_d1 hr h_S_ (ix2 t e)))).trans ?_
  refine (Finset.fold_max_le (α := Fin 2047) (β := EReal) u).trans ?_
  have hb : (constant (F := Ideal) S_ .f32 0xFF800000#32 (Shape.Idx.first h_S_) : EReal) = ⊥ := ofBits_ninf
  have hl : ∀ n : Fin 2047, hr.lift (ix2 t e) n = ix3 t n e := fun n => by
    funext a
    match a with
    | ⟨0, _⟩ => rfl
    | ⟨1, _⟩ => rfl
    | ⟨2, _⟩ => rfl
  constructor
  · intro h n
    have := h.2 n (Finset.mem_univ _)
    exact (iff_of_eq (congrArg (fun i => (y i : EReal) ≤ u) (hl n))).1 this
  · intro h
    refine ⟨(iff_of_eq (congrArg (fun v : EReal => v ≤ u) hb)).2 bot_le, fun n _ => ?_⟩
    exact (iff_of_eq (congrArg (fun i => (y i : EReal) ≤ u) (hl n))).2 (h n)

end Cert.Proof.Ref

end
-- ==== Proof.KerValue.lean ====
/-
  The kernel's value: under tokens that name rows of the embedding table, its result at (t, e) is the maximum of every
  node's sum in tree `t`, column `e` (`outV_le`) — the sums the reference takes.
-/
module

public import proofs.«01_k».proof.Proof.RefValue
public import proofs.«01_k».proof.Proof.MainRun
public import proofs.«01_k».proof.Proof.Tokens

@[expose] public section

noncomputable section

namespace Cert.Proof.Run

open Cert.KernelIdeal Cert.KernelIdeal.Gen
open Idealize.ShloMosaic Idealize.ShloMosaic.ValueIdx
open Idealize.ShloMosaic.TcCoe
open Idealize.SL Idealize.SL.Sem

variable (m : (ℓ : Loc nD τ sig) → Buf (Elt Ideal) ℓ) (d : Dev nD)

/-- The kernel's arguments as arrays. -/
abbrev kA : S16x2047.Idx → BitVec 32 := m (aLoc d)
abbrev kE : S100000x128.Idx → EReal := m (eLoc d)
abbrev kW : S128x128.Idx → EReal := m (locT d main_arg2)
abbrev kB : S128.Idx → EReal := m (locT d main_arg3)

/-- The node values of the kernel's arguments. -/
abbrev kX (t : Fin 16) (e : Fin 128) : ℕ → EReal := Ref.nodeX (kA m d) (kE m d) (kW m d) (kB m d) t e

/-- Entry `n` of tree `t`, a node: the row its token names. -/
theorem tokRow_node (t : Fin 16) (n : ℕ) (hn : n < 2047) :
    tokRow m d (t.val * 2048 + n) =
      (⟨(kA m d (ix2 t (⟨n % 2047, Nat.mod_lt _ (by decide)⟩ : Fin 2047))).toNat % 100000, Nat.mod_lt _ (by decide)⟩ : Fin 100000) := by
  have ht := t.isLt
  refine Fin.ext ?_
  show (tokC m d _).toNat % 100000 = _ % 100000
  have e1 : (⟨(t.val * 2048 + n) / 2048 % 16, Nat.mod_lt _ (by decide)⟩ : Fin 16) = t := Fin.ext (show (t.val * 2048 + n) / 2048 % 16 = t.val by omega)
  have e2 : (⟨(t.val * 2048 + n) % 2048, Nat.mod_lt _ (by decide)⟩ : Fin 2048) = (⟨n, by omega⟩ : Fin 2048) := Fin.ext (show (t.val * 2048 + n) % 2048 = n by omega)
  have e3 : (⟨n % 2047, Nat.mod_lt _ (by decide)⟩ : Fin 2047) = (⟨n, hn⟩ : Fin 2047) := Fin.ext (Nat.mod_eq_of_lt hn)
  rw [e1, e2, e3]
  exact congrArg (fun w : BitVec 32 => w.toNat % 100000) (tokC_apply m d t ⟨n, hn⟩)

/-- Row `q` of tree `t`, as the TensorCore call reads it: the row of node `node q`. -/
theorem rows_val (t : Fin 16) (q : ℕ) (h0 : q ≠ 0) (hq : q < 2048) (k : Fin 128) :
    treeRow (regV m) d t q k =
      kE m d (ix2 (⟨(kA m d (ix2 t (⟨Lit.node q % 2047, Nat.mod_lt _ (by decide)⟩ : Fin 2047))).toNat % 100000, Nat.mod_lt _ (by decide)⟩ : Fin 100000) k) := by
  have ht := t.isLt
  have e0 : q % 2048 = q := Nat.mod_eq_of_lt hq
  have hp : t.val * 2048 + q < 32768 := by omega
  unfold treeRow
  rw [regV_v3]
  have h1 : rowsV m d (ix3 t (⟨q % 2048, Nat.mod_lt _ (by omega)⟩ : Fin 2048) k) = gathered m d (ix2 (⟨t.val * 2048 + q, hp⟩ : Fin 32768) k) := by
    refine shapeCast_apply (s := S32768x128) (t := S16x2048x128) (gathered m d) shapeCasts_S32768x128_S16x2048x128 _ _ ?_
    rw [Shape.rowMajor_val_two, Shape.rowMajor_val_three]
    show (t.val * 2048 + q) * 128 + k.val = (t.val * 2048 + q % 2048) * 128 + k.val
    rw [e0]
  refine h1.trans ?_
  show kE m d (ix2 (tokRow m d (Lit.src (t.val * 2048 + q))) k) = _
  have hs : Lit.src (t.val * 2048 + q) = t.val * 2048 + Lit.node q := by
    unfold Lit.src
    rw [show (t.val * 2048 + q) / 2048 = t.val by omega, show (t.val * 2048 + q) % 2048 = q by omega]
  rw [hs, tokRow_node m d t _ (log2_node h0 hq).1]

/-- The kernel's result at (t, e). -/
def kOut (t : Fin 16) (e : Fin 128) : EReal := outV m d (ix2 t e)

/-- The kernel's result at (t, e) is the maximum of the sums over the subtrees of tree `t`'s nodes. -/
theorem outV_le (t : Fin 16) (e : Fin 128) (u : EReal) :
    kOut m d t e ≤ u ↔ ∀ n, n < 2047 → hsum (kX m d t e) (10 - Nat.log2 (n + 1)) n ≤ u := by
  have h1 : outV m d (ix2 t e) = tcOut (regV m) d (ix3 t (0 : Fin 1) e) := by
    refine shapeCast_apply (s := S16x1x128) (t := S16x128) (tcOut (regV m) d) shapeCasts_S16x1x128_S16x128 _ _ ?_
    rw [Shape.rowMajor_val_two, Shape.rowMajor_val_three]
    show (t.val * 1 + 0) * 128 + e.val = t.val * 128 + e.val
    omega
  have hb : (regV m d main_v4 (ix2 (0 : Fin 1) e) : EReal) = kB m d (ix1 e) := by
    rw [regV_v4]
    refine shapeCast_apply (s := S128) (t := S1x128) (m (locT d main_arg3)) shapeCasts_S128_S1x128 _ _ ?_
    rw [Shape.rowMajor_val_one, Shape.rowMajor_val_two]
    show e.val = 0 * 128 + e.val
    omega
  refine (iff_of_eq (congrArg (fun v : EReal => v ≤ u) h1)).trans ?_
  refine (tcOut_max (regV m) d (ix3 t (0 : Fin 1) e) u).trans ?_
  refine nodesLe_iff (x := kX m d t e) (fun q h0 hq => ?_) u
  refine congrArg₂ (fun a b : EReal => a + b) (Finset.sum_congr rfl fun k _ => ?_) hb
  exact congrArg₂ (fun a b : EReal => a * b) (rows_val m d t q h0 hq k) (congrFun (regV_arg2 m d) (ix2 k e))

end Cert.Proof.Run

end
-- ==== Proof.Algebra.lean ====
/-
  The algebraic claim: at the ideal values the kernel and the reference leave the same result (`algebraic`). Each is, at
  (t, e), the maximum over tree `t`'s nodes of the sum over the node's subtree.
-/
module

public import proofs.«01_k».proof.Defs
public import proofs.«01_k».proof.Proof.KerValue
public import proofs.«01_k».proof.Proof.Frames

@[expose] public section

noncomputable section

namespace Cert.Proof.Ref

open Cert.ReferenceIdeal Cert.ReferenceIdeal.Gen Cert.ReferenceIdeal.Value
open Idealize.ShloMosaic Idealize.ShloMosaic.ValueIdx Idealize.ShloMosaic.StableHlo
open Idealize.ShloMosaic.TcCoe Idealize.SL.Sem
open Cert.Proof.Run

variable (V0 : Valuation τ sig (Elt Ideal))

/-- The reference's result. -/
def refV : FVec Ideal S16x128 .f32 :=
  Host.reduce (α := Ideal .f32) FloatOps.maximumf (Host.scatterAdd (F := Ideal) (φ := .f32) scatter_S16x2047x128_S2x1_S16x2x128_02_1_1_1 (res_main_v94 V0) (broadcastInDim S2x1 ![0] bcast_S2_S2x1_0 (select (constantI S2 1 0#1) (addi (res_main_c_37 V0) (broadcastInDim S2 ![] bcast_S_S2 (constantI S_ 32 2047#32))) (res_main_c_37 V0))) (Host.gather gather_S16x2047x128_S2x1_S16x2x128_02_1_n_n_1_1_161128 (res_main_v94 V0) (broadcastInDim S2x1 ![0] bcast_S2_S2x1_0 (select (constantI S2 1 0#1) (addi (res_main_c_35 V0) (broadcastInDim S2 ![] bcast_S_S2 (constantI S_ 32 2047#32))) (res_main_c_35 V0))))) (constant S_ .f32 0xFF800000#32) reducesTo_S16x2047x128_S16x128_d1 h_S_

/-- The reference's result at (t, e) is the maximum of the sums over the subtrees of tree `t`'s nodes. -/
theorem refV_le (hA : ∀ j, (argA V0 j).toNat < 100000) (t : Fin 16) (e : Fin 128) (u : EReal) :
    (refV V0 (ix2 t e) : EReal) ≤ u ↔
      ∀ n, n < 2047 → hsum (nodeX (argA V0) (argE V0) (argW V0) (argB V0) t e) (10 - Nat.log2 (n + 1)) n ≤ u := by
  have hr := rows_root (fun t e => nodeX (argA V0) (argE V0) (argW V0) (argB V0) t e) V0 (rows_v4 V0 hA)
  refine (max_le _ t e u).trans ?_
  constructor
  · intro h n hn
    have := h ⟨n, hn⟩
    rw [← upTo_root]
    exact (iff_of_eq (congrArg (fun v : EReal => v ≤ u) (hr t ⟨n, hn⟩ e))).1 this
  · intro h n
    have := h n.val n.isLt
    rw [← upTo_root] at this
    exact (iff_of_eq (congrArg (fun v : EReal => v ≤ u) (hr t n e))).2 this

end Cert.Proof.Ref

namespace Cert.Proof.Run

open Idealize.ShloMosaic Idealize.ShloMosaic.ValueIdx Idealize.ShloMosaic.StableHlo
open Idealize.ShloMosaic.TcCoe Idealize.SL.Sem

/-- From equal arguments whose tokens name rows of the embedding table, the two results are one array. -/
theorem refV_eq (m : (ℓ : Loc KernelIdeal.nD KernelIdeal.τ KernelIdeal.sig) → Buf (Elt Ideal) ℓ) (d : Dev KernelIdeal.nD)
    (V0 : Valuation ReferenceIdeal.τ ReferenceIdeal.sig (Elt Ideal)) (hpre : PreOK m)
    (h0 : Ref.argA V0 = kA m d) (h1 : Ref.argE V0 = kE m d) (h2 : Ref.argW V0 = kW m d) (h3 : Ref.argB V0 = kB m d) :
    Ref.refV V0 = outV m d := by
  funext j
  rw [eq_ix2 j]
  refine eq_of_forall_ge_iff (α := EReal) fun u => ?_
  refine (Ref.refV_le V0 (fun j => by rw [h0]; exact hpre d j) (j 0) (j 1) u).trans ?_
  rw [h0, h1, h2, h3]
  exact (outV_le m d (j 0) (j 1) u).symm

/-- The kernel and the reference end with equal results, the arguments unchanged. -/
theorem algebraic : Cert.algebraic_KernelIdeal_ReferenceIdeal := fun m g m' g' hp hargs => by
  have hpre := ok_ideal m hp
  refine ⟨fun c => outV m c, ?_, ?_⟩
  · exact (θ_run Cert.KernelIdeal.defs _ _).mono (fun _ h c => ⟨(h.1 c).2.2.2.2.2, (h.1 c).1, (h.1 c).2.1, (h.1 c).2.2.1, (h.1 c).2.2.2.1, (h.1 c).2.2.2.2.1⟩)
      (run_main (F := Ideal) m g hpre)
  · refine (θ_run Cert.ReferenceIdeal.defs _ _).mono (fun _ h c => ⟨(h c).1.trans ?_, (h c).2⟩) (Cert.ReferenceIdeal.Value.run m' g')
    obtain ⟨a0, a1, a2, a3, -⟩ := hargs c
    exact refV_eq m c (launchContents m' c) hpre a0 a1 a2 a3

end Cert.Proof.Run

end
-- ==== Proof.lean ====
/-
  The claims together: the three frames (the reference's also where the tokens are in range), that the idealization preserves the
  kernel, and that the kernel and the reference compute the same result at the ideal values. The modules under Proof/ prove each;
  the witnesses of the programs' stated facts come first.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.ProgRun
public import proofs.«01_k».proof.Proof.Frames
public import proofs.«01_k».proof.Proof.Algebra
public import proofs.«01_k».proof.Proof.Gen.Pre_in_vocab
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_in_vocab.Gen.facts,
    Run.frame_Kernel, Run.frame_KernelIdeal, Run.frame_ReferenceIdeal, Run.frame_ReferenceIdeal_in_vocab, trivial, Run.algebraic⟩

end Cert.Proof

end
